-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_served_KernelIdeal [hPre_served_KernelIdeal : Cert.Pre_served_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_served_ReferenceIdeal [hPre_served_ReferenceIdeal : Cert.Pre_served_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_served_KernelIdeal [hKernelIdeal : Cert.KernelIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_served_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_served_ReferenceIdeal [hReferenceIdeal : Cert.ReferenceIdeal.Facts] [hPre_served_ReferenceIdeal : Cert.Pre_served_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_served_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_served_KernelIdeal [hKernelIdeal : Cert.KernelIdeal.Facts] [hReferenceIdeal : Cert.ReferenceIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_served_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v69) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_served_KernelIdeal : Cert.Pre_served_KernelIdeal.Facts) (hPre_served_ReferenceIdeal : Cert.Pre_served_ReferenceIdeal.Facts),
    quiescent_Kernel (hKernel := hKernel)
    ∧ quiescent_KernelIdeal (hKernelIdeal := hKernelIdeal)
    ∧ quiescent_KernelIdeal_pre_served_KernelIdeal (hKernelIdeal := hKernelIdeal) (hPre_served_KernelIdeal := hPre_served_KernelIdeal)
    ∧ quiescent_ReferenceIdeal (hReferenceIdeal := hReferenceIdeal)
    ∧ quiescent_ReferenceIdeal_pre_served_ReferenceIdeal (hReferenceIdeal := hReferenceIdeal) (hPre_served_ReferenceIdeal := hPre_served_ReferenceIdeal)
    ∧ preserves_Kernel_KernelIdeal
    ∧ algebraic_KernelIdeal_ReferenceIdeal_pre_served_KernelIdeal (hKernelIdeal := hKernelIdeal) (hReferenceIdeal := hReferenceIdeal) (hPre_served_KernelIdeal := hPre_served_KernelIdeal)
-- ==== Pre_served_KernelIdeal.lean ====
abbrev S512x256 : Shape := ⟨2, ![512, 256]⟩
abbrev S256x16 : Shape := ⟨2, ![256, 16]⟩
abbrev S512x2 : Shape := ⟨2, ![512, 2]⟩
abbrev S4x256x512 : Shape := ⟨3, ![4, 256, 512]⟩
abbrev S_ : Shape := ⟨0, ![]⟩

class Facts : Prop where
  bcast_S_S512x2 : S_.BroadcastsInDim S512x2 (![] : Fin 0 → Fin S512x2.rank)
  bcast_S_S512x256 : S_.BroadcastsInDim S512x256 (![] : Fin 0 → Fin S512x256.rank)
  bcast_S_S256x16 : S_.BroadcastsInDim S256x16 (![] : Fin 0 → Fin S256x16.rank)

variable [Facts]

def fn {F : FTy → Type} [FloatOps F] (main_arg0 : FVec F S512x256 .f32) (main_arg1 : FVec F S256x16 .f32) (main_arg2 : IVec S512x2 32) (main_arg3 : FVec F S4x256x512 .f32) : IVec S512x2 1 × IVec S512x256 1 × IVec S256x16 1 :=
  let main_c : IVec S_ 32 := constantI S_ 32 0#32
  let main_v0 : IVec S512x2 32 := broadcastInDim S512x2 ![] bcast_S_S512x2 main_c
  let main_v1 : IVec S512x2 1 := cmpi .sge main_arg2 main_v0
  let main_c_0 : IVec S_ 32 := constantI S_ 32 16#32
  let main_v2 : IVec S512x2 32 := broadcastInDim S512x2 ![] bcast_S_S512x2 main_c_0
  let main_v3 : IVec S512x2 1 := cmpi .slt main_arg2 main_v2
  let main_v4 : IVec S512x2 1 := andi main_v1 main_v3
  let main_v5 : FVec F S512x256 .f32 := Host.absf main_arg0
  let main_cst : FVec F S_ .f32 := constant S_ .f32 0x7F800000#32
  let main_v6 : FVec F S512x256 .f32 := broadcastInDim S512x256 ![] bcast_S_S512x256 main_cst
  let main_v7 : IVec S512x256 1 := cmpf .olt main_v5 main_v6
  let main_v8 : FVec F S256x16 .f32 := Host.absf main_arg1
  let main_cst_1 : FVec F S_ .f32 := constant S_ .f32 0x7F800000#32
  let main_v9 : FVec F S256x16 .f32 := broadcastInDim S256x16 ![] bcast_S_S256x16 main_cst_1
  let main_v10 : IVec S256x16 1 := cmpf .olt main_v8 main_v9
  (main_v4, main_v7, main_v10)
-- ==== Pre_served_ReferenceIdeal.lean ====
abbrev S512x256 : Shape := ⟨2, ![512, 256]⟩
abbrev S256x16 : Shape := ⟨2, ![256, 16]⟩
abbrev S512x2 : Shape := ⟨2, ![512, 2]⟩
abbrev S16x256x512 : Shape := ⟨3, ![16, 256, 512]⟩
abbrev S_ : Shape := ⟨0, ![]⟩

class Facts : Prop where
  bcast_S_S512x2 : S_.BroadcastsInDim S512x2 (![] : Fin 0 → Fin S512x2.rank)
  bcast_S_S512x256 : S_.BroadcastsInDim S512x256 (![] : Fin 0 → Fin S512x256.rank)
  bcast_S_S256x16 : S_.BroadcastsInDim S256x16 (![] : Fin 0 → Fin S256x16.rank)

variable [Facts]

def fn {F : FTy → Type} [FloatOps F] (main_arg0 : FVec F S512x256 .f32) (main_arg1 : FVec F S256x16 .f32) (main_arg2 : IVec S512x2 32) (main_arg3 : FVec F S16x256x512 .f32) : IVec S512x2 1 × IVec S512x256 1 × IVec S256x16 1 :=
  let main_c : IVec S_ 32 := constantI S_ 32 0#32
  let main_v0 : IVec S512x2 32 := broadcastInDim S512x2 ![] bcast_S_S512x2 main_c
  let main_v1 : IVec S512x2 1 := cmpi .sge main_arg2 main_v0
  let main_c_0 : IVec S_ 32 := constantI S_ 32 16#32
  let main_v2 : IVec S512x2 32 := broadcastInDim S512x2 ![] bcast_S_S512x2 main_c_0
  let main_v3 : IVec S512x2 1 := cmpi .slt main_arg2 main_v2
  let main_v4 : IVec S512x2 1 := andi main_v1 main_v3
  let main_v5 : FVec F S512x256 .f32 := Host.absf main_arg0
  let main_cst : FVec F S_ .f32 := constant S_ .f32 0x7F800000#32
  let main_v6 : FVec F S512x256 .f32 := broadcastInDim S512x256 ![] bcast_S_S512x256 main_cst
  let main_v7 : IVec S512x256 1 := cmpf .olt main_v5 main_v6
  let main_v8 : FVec F S256x16 .f32 := Host.absf main_arg1
  let main_cst_1 : FVec F S_ .f32 := constant S_ .f32 0x7F800000#32
  let main_v9 : FVec F S256x16 .f32 := broadcastInDim S256x16 ![] bcast_S_S256x16 main_cst_1
  let main_v10 : IVec S256x16 1 := cmpf .olt main_v8 main_v9
  (main_v4, main_v7, main_v10)
-- ==== Kernel.lean ====
abbrev S512x256 : Shape := ⟨2, ![512, 256]⟩
abbrev S256x16 : Shape := ⟨2, ![256, 16]⟩
abbrev S512x2 : Shape := ⟨2, ![512, 2]⟩
abbrev S4x256x512 : Shape := ⟨3, ![4, 256, 512]⟩
abbrev S512x512 : Shape := ⟨2, ![512, 512]⟩
abbrev S512x4 : Shape := ⟨2, ![512, 4]⟩
abbrev S3x128x512 : Shape := ⟨3, ![3, 128, 512]⟩
abbrev S2 : Shape := ⟨1, ![2]⟩
abbrev S6 : Shape := ⟨1, ![6]⟩
abbrev S1 : Shape := ⟨1, ![1]⟩
abbrev S_ : Shape := ⟨0, ![]⟩
abbrev S512x16 : Shape := ⟨2, ![512, 16]⟩
abbrev S512 : Shape := ⟨1, ![512]⟩
abbrev S512x1 : Shape := ⟨2, ![512, 1]⟩
abbrev S1024x512 : Shape := ⟨2, ![1024, 512]⟩
abbrev S128x256 : Shape := ⟨2, ![128, 256]⟩
abbrev S128x4 : Shape := ⟨2, ![128, 4]⟩
abbrev S128x1 : Shape := ⟨2, ![128, 1]⟩
abbrev S128x1024 : Shape := ⟨2, ![128, 1024]⟩
abbrev S128x512 : Shape := ⟨2, ![128, 512]⟩
abbrev S1x128x512 : Shape := ⟨3, ![1, 128, 512]⟩
abbrev S1x64x512 : Shape := ⟨3, ![1, 64, 512]⟩
abbrev S64x512 : Shape := ⟨2, ![64, 512]⟩

abbrev nBuf : Space → Nat
  | .hbm => 5
  | .vmem => 9
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x2, .i32⟩
  | .hbm, ⟨3, _⟩ => ⟨S4x256x512, .f32⟩
  | .hbm, ⟨4, _⟩ => ⟨S512x512, .bf16⟩
  | .local _ .vmem, ⟨0, _⟩ => ⟨S256x16, .f32⟩
  | .local _ .vmem, ⟨1, _⟩ => ⟨S512x2, .i32⟩
  | .local _ .vmem, ⟨2, _⟩ => ⟨S512x512, .bf16⟩
  | .local _ .vmem, ⟨3, _⟩ => ⟨S512x256, .f32⟩
  | .local _ .vmem, ⟨4, _⟩ => ⟨S4x256x512, .f32⟩
  | .local _ .vmem, ⟨5, _⟩ => ⟨S4x256x512, .bf16⟩
  | .local _ .vmem, ⟨6, _⟩ => ⟨S512x4, .f32⟩
  | .local _ .vmem, ⟨7, _⟩ => ⟨S3x128x512, .bf16⟩
  | .local _ .vmem, ⟨8, _⟩ => ⟨S3x128x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v3 : BitVec 32 := Scalar.addi v2 c0_i32
  let c1_i32_0 : BitVec 32 := 1#32
  let v4 : BitVec 32 := Scalar.addi v3 c1_i32_0
  let c8_i32 : BitVec 32 := 8#32
  let v5 : BitVec 32 := Scalar.addi v4 c8_i32
  let c4_i32_1 : BitVec 32 := 4#32
  let v6 : BitVec 32 := Scalar.remsi v5 c4_i32_1
  let c1_i32_12 : BitVec 32 := 1#32
  let v20 : BitVec 32 := Scalar.muli v6 c1_i32_12
  let v21 : BitVec 32 := Scalar.addi c0_i32_13 v20
  v21.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.addi v2 c1_i32_2
  let c1_i32_3 : BitVec 32 := 1#32
  let v8 : BitVec 32 := Scalar.addi v7 c1_i32_3
  let c8_i32_4 : BitVec 32 := 8#32
  let v9 : BitVec 32 := Scalar.addi v8 c8_i32_4
  let c4_i32_5 : BitVec 32 := 4#32
  let v10 : BitVec 32 := Scalar.remsi v9 c4_i32_5
  let c1_i32_15 : BitVec 32 := 1#32
  let v22 : BitVec 32 := Scalar.muli v10 c1_i32_15
  let v23 : BitVec 32 := Scalar.addi c0_i32_16 v22
  v23.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v11 : BitVec 32 := Scalar.addi v2 c2_i32
  let c1_i32_6 : BitVec 32 := 1#32
  let v12 : BitVec 32 := Scalar.addi v11 c1_i32_6
  let c8_i32_7 : BitVec 32 := 8#32
  let v13 : BitVec 32 := Scalar.addi v12 c8_i32_7
  let c4_i32_8 : BitVec 32 := 4#32
  let v14 : BitVec 32 := Scalar.remsi v13 c4_i32_8
  let c1_i32_18 : BitVec 32 := 1#32
  let v24 : BitVec 32 := Scalar.muli v14 c1_i32_18
  let v25 : BitVec 32 := Scalar.addi c0_i32_19 v24
  v25.toNat
def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c0_i32
  let c1_i32_0 : BitVec 32 := 1#32
  let v4 : BitVec 32 := Scalar.addi v3 c1_i32_0
  let c8_i32 : BitVec 32 := 8#32
  let v5 : BitVec 32 := Scalar.addi v4 c8_i32
  let c4_i32_1 : BitVec 32 := 4#32
  let v6 : BitVec 32 := Scalar.remsi v5 c4_i32_1
  let c128_i32 : BitVec 32 := 128#32
  let v118 : BitVec 32 := Scalar.muli v6 c128_i32
  let v119 : Index := Scalar.indexCast v118
  let c0_60 : Index := 0#32
  ![v119.toNat, 0]
def k0_off2 (d0 : Dev nD) (c0_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c0_i32
  let c1_i32_0 : BitVec 32 := 1#32
  let v4 : BitVec 32 := Scalar.addi v3 c1_i32_0
  let c8_i32 : BitVec 32 := 8#32
  let v5 : BitVec 32 := Scalar.addi v4 c8_i32
  let c4_i32_1 : BitVec 32 := 4#32
  let v6 : BitVec 32 := Scalar.remsi v5 c4_i32_1
  let c128_i32 : BitVec 32 := 128#32
  let v118 : BitVec 32 := Scalar.muli v6 c128_i32
  let v121 : Index := Scalar.indexCast v118
  let c0_61 : Index := 0#32
  ![v121.toNat, 0]
def k0_dev4 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v3 : BitVec 32 := Scalar.addi v2 c0_i32
  let c1_i32_0 : BitVec 32 := 1#32
  let v4 : BitVec 32 := Scalar.addi v3 c1_i32_0
  let c8_i32 : BitVec 32 := 8#32
  let v5 : BitVec 32 := Scalar.addi v4 c8_i32
  let c4_i32_1 : BitVec 32 := 4#32
  let v6 : BitVec 32 := Scalar.remsi v5 c4_i32_1
  let c1_i32_71 : BitVec 32 := 1#32
  let v145 : BitVec 32 := Scalar.muli v6 c1_i32_71
  let v146 : BitVec 32 := Scalar.addi c0_i32_72 v145
  v146.toNat
def k0_dev5 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v3 : BitVec 32 := Scalar.addi v2 c0_i32
  let c1_i32_0 : BitVec 32 := 1#32
  let v4 : BitVec 32 := Scalar.addi v3 c1_i32_0
  let c8_i32 : BitVec 32 := 8#32
  let v5 : BitVec 32 := Scalar.addi v4 c8_i32
  let c4_i32_1 : BitVec 32 := 4#32
  let v6 : BitVec 32 := Scalar.remsi v5 c4_i32_1
  let c1_i32_80 : BitVec 32 := 1#32
  let v155 : BitVec 32 := Scalar.muli v6 c1_i32_80
  let v156 : BitVec 32 := Scalar.addi c0_i32_81 v155
  v156.toNat
def k0_dev6 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.addi v2 c1_i32_2
  let c1_i32_3 : BitVec 32 := 1#32
  let v8 : BitVec 32 := Scalar.addi v7 c1_i32_3
  let c8_i32_4 : BitVec 32 := 8#32
  let v9 : BitVec 32 := Scalar.addi v8 c8_i32_4
  let c4_i32_5 : BitVec 32 := 4#32
  let v10 : BitVec 32 := Scalar.remsi v9 c4_i32_5
  let c1_i32_96 : BitVec 32 := 1#32
  let v192 : BitVec 32 := Scalar.muli v10 c1_i32_96
  let v193 : BitVec 32 := Scalar.addi c0_i32_97 v192
  v193.toNat
def k0_dev7 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.addi v2 c1_i32_2
  let c1_i32_3 : BitVec 32 := 1#32
  let v8 : BitVec 32 := Scalar.addi v7 c1_i32_3
  let c8_i32_4 : BitVec 32 := 8#32
  let v9 : BitVec 32 := Scalar.addi v8 c8_i32_4
  let c4_i32_5 : BitVec 32 := 4#32
  let v10 : BitVec 32 := Scalar.remsi v9 c4_i32_5
  let c1_i32_106 : BitVec 32 := 1#32
  let v202 : BitVec 32 := Scalar.muli v10 c1_i32_106
  let v203 : BitVec 32 := Scalar.addi c0_i32_107 v202
  v203.toNat
def k0_dev8 (d0 : Dev nD) : Nat :=
  let c0_i32_123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v11 : BitVec 32 := Scalar.addi v2 c2_i32
  let c1_i32_6 : BitVec 32 := 1#32
  let v12 : BitVec 32 := Scalar.addi v11 c1_i32_6
  let c8_i32_7 : BitVec 32 := 8#32
  let v13 : BitVec 32 := Scalar.addi v12 c8_i32_7
  let c4_i32_8 : BitVec 32 := 4#32
  let v14 : BitVec 32 := Scalar.remsi v13 c4_i32_8
  let c1_i32_122 : BitVec 32 := 1#32
  let v239 : BitVec 32 := Scalar.muli v14 c1_i32_122
  let v240 : BitVec 32 := Scalar.addi c0_i32_123 v239
  v240.toNat
def k0_dev9 (d0 : Dev nD) : Nat :=
  let c0_i32_133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v11 : BitVec 32 := Scalar.addi v2 c2_i32
  let c1_i32_6 : BitVec 32 := 1#32
  let v12 : BitVec 32 := Scalar.addi v11 c1_i32_6
  let c8_i32_7 : BitVec 32 := 8#32
  let v13 : BitVec 32 := Scalar.addi v12 c8_i32_7
  let c4_i32_8 : BitVec 32 := 4#32
  let v14 : BitVec 32 := Scalar.remsi v13 c4_i32_8
  let c1_i32_132 : BitVec 32 := 1#32
  let v249 : BitVec 32 := Scalar.muli v14 c1_i32_132
  let v250 : BitVec 32 := Scalar.addi c0_i32_133 v249
  v250.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_138 : BitVec 32 := 128#32
  let v259 : BitVec 32 := Scalar.muli v2 c128_i32_138
  let v260 : Index := Scalar.indexCast v259
  let c0_139 : Index := 0#32
  ![v260.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_138 : BitVec 32 := 128#32
  let v259 : BitVec 32 := Scalar.muli v2 c128_i32_138
  let v262 : Index := Scalar.indexCast v259
  let c0_140 : Index := 0#32
  ![v262.toNat, 0]
def k0_off5 (d0 : Dev nD) (c0_i32_143 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_142 : BitVec 32 := 128#32
  let v282 : BitVec 32 := Scalar.muli v2 c128_i32_142
  let v283 : BitVec 32 := Scalar.addi v282 c0_i32_143
  let v322 : Index := Scalar.indexCast v283
  let c0_183 : Index := 0#32
  ![v322.toNat, 0]
def k0_off6 (d0 : Dev nD) (c0_i32_143 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_142 : BitVec 32 := 128#32
  let v282 : BitVec 32 := Scalar.muli v2 c128_i32_142
  let v283 : BitVec 32 := Scalar.addi v282 c0_i32_143
  let c0_i32_188 : BitVec 32 := 0#32
  ![v283.toNat, 0]
def k0_dev10 (d0 : Dev nD) : Nat :=
  let c0_i32_187 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v3 : BitVec 32 := Scalar.addi v2 c0_i32
  let c1_i32_0 : BitVec 32 := 1#32
  let v4 : BitVec 32 := Scalar.addi v3 c1_i32_0
  let c8_i32 : BitVec 32 := 8#32
  let v5 : BitVec 32 := Scalar.addi v4 c8_i32
  let c4_i32_1 : BitVec 32 := 4#32
  let v6 : BitVec 32 := Scalar.remsi v5 c4_i32_1
  let c1_i32_186 : BitVec 32 := 1#32
  let v324 : BitVec 32 := Scalar.muli v6 c1_i32_186
  let v325 : BitVec 32 := Scalar.addi c0_i32_187 v324
  v325.toNat
def k0_dev11 (d0 : Dev nD) : Nat :=
  let c0_i32_193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.addi v2 c1_i32_2
  let c1_i32_3 : BitVec 32 := 1#32
  let v8 : BitVec 32 := Scalar.addi v7 c1_i32_3
  let c8_i32_4 : BitVec 32 := 8#32
  let v9 : BitVec 32 := Scalar.addi v8 c8_i32_4
  let c4_i32_5 : BitVec 32 := 4#32
  let v10 : BitVec 32 := Scalar.remsi v9 c4_i32_5
  let c1_i32_192 : BitVec 32 := 1#32
  let v332 : BitVec 32 := Scalar.muli v10 c1_i32_192
  let v333 : BitVec 32 := Scalar.addi c0_i32_193 v332
  v333.toNat
def k0_dev12 (d0 : Dev nD) : Nat :=
  let c0_i32_199 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v11 : BitVec 32 := Scalar.addi v2 c2_i32
  let c1_i32_6 : BitVec 32 := 1#32
  let v12 : BitVec 32 := Scalar.addi v11 c1_i32_6
  let c8_i32_7 : BitVec 32 := 8#32
  let v13 : BitVec 32 := Scalar.addi v12 c8_i32_7
  let c4_i32_8 : BitVec 32 := 4#32
  let v14 : BitVec 32 := Scalar.remsi v13 c4_i32_8
  let c1_i32_198 : BitVec 32 := 1#32
  let v340 : BitVec 32 := Scalar.muli v14 c1_i32_198
  let v341 : BitVec 32 := Scalar.addi c0_i32_199 v340
  v341.toNat
def k0_dev13 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v3 : BitVec 32 := Scalar.addi v2 c0_i32
  let c1_i32_0 : BitVec 32 := 1#32
  let v4 : BitVec 32 := Scalar.addi v3 c1_i32_0
  let c8_i32 : BitVec 32 := 8#32
  let v5 : BitVec 32 := Scalar.addi v4 c8_i32
  let c4_i32_1 : BitVec 32 := 4#32
  let v6 : BitVec 32 := Scalar.remsi v5 c4_i32_1
  let c1_i32_245 : BitVec 32 := 1#32
  let v390 : BitVec 32 := Scalar.muli v6 c1_i32_245
  let v391 : BitVec 32 := Scalar.addi c0_i32_246 v390
  v391.toNat
def k0_dev14 (d0 : Dev nD) : Nat :=
  let c0_i32_252 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v7 : BitVec 32 := Scalar.addi v2 c1_i32_2
  let c1_i32_3 : BitVec 32 := 1#32
  let v8 : BitVec 32 := Scalar.addi v7 c1_i32_3
  let c8_i32_4 : BitVec 32 := 8#32
  let v9 : BitVec 32 := Scalar.addi v8 c8_i32_4
  let c4_i32_5 : BitVec 32 := 4#32
  let v10 : BitVec 32 := Scalar.remsi v9 c4_i32_5
  let c1_i32_251 : BitVec 32 := 1#32
  let v398 : BitVec 32 := Scalar.muli v10 c1_i32_251
  let v399 : BitVec 32 := Scalar.addi c0_i32_252 v398
  v399.toNat
def k0_dev15 (d0 : Dev nD) : Nat :=
  let c0_i32_258 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v11 : BitVec 32 := Scalar.addi v2 c2_i32
  let c1_i32_6 : BitVec 32 := 1#32
  let v12 : BitVec 32 := Scalar.addi v11 c1_i32_6
  let c8_i32_7 : BitVec 32 := 8#32
  let v13 : BitVec 32 := Scalar.addi v12 c8_i32_7
  let c4_i32_8 : BitVec 32 := 4#32
  let v14 : BitVec 32 := Scalar.remsi v13 c4_i32_8
  let c1_i32_257 : BitVec 32 := 1#32
  let v406 : BitVec 32 := Scalar.muli v14 c1_i32_257
  let v407 : BitVec 32 := Scalar.addi c0_i32_258 v406
  v407.toNat
def k0_off7 (d0 : Dev nD) (c0_i32_315 : BitVec 32) (c0_i32_320 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v450 : BitVec 32 := Scalar.addi v2 c0_i32_315
  let c1_i32_316 : BitVec 32 := 1#32
  let v451 : BitVec 32 := Scalar.addi v450 c1_i32_316
  let c8_i32_317 : BitVec 32 := 8#32
  let v452 : BitVec 32 := Scalar.addi v451 c8_i32_317
  let c4_i32_318 : BitVec 32 := 4#32
  let v453 : BitVec 32 := Scalar.remsi v452 c4_i32_318
  let c128_i32_319 : BitVec 32 := 128#32
  let v454 : BitVec 32 := Scalar.muli v453 c128_i32_319
  let v455 : BitVec 32 := Scalar.addi v454 c0_i32_320
  let c0_i32_325 : BitVec 32 := 0#32
  ![v455.toNat, 0]
abbrev stage0_0 : Fin 1 → Memref sig .tc .vmem S256x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x256 : Shape := ⟨2, ![512, 256]⟩
abbrev S256x16 : Shape := ⟨2, ![256, 16]⟩
abbrev S512x2 : Shape := ⟨2, ![512, 2]⟩
abbrev S16x256x512 : Shape := ⟨3, ![16, 256, 512]⟩
abbrev S512x16 : Shape := ⟨2, ![512, 16]⟩
abbrev S_ : Shape := ⟨0, ![]⟩
abbrev S512 : Shape := ⟨1, ![512]⟩
abbrev S512x1 : Shape := ⟨2, ![512, 1]⟩
abbrev S512x256x512 : Shape := ⟨3, ![512, 256, 512]⟩
abbrev S512x512 : Shape := ⟨2, ![512, 512]⟩

abbrev nBuf : Space → Nat
  | .hbm => 88
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x2, .i32⟩
  | .hbm, ⟨3, _⟩ => ⟨S16x256x512, .f32⟩
  | .hbm, ⟨4, _⟩ => ⟨S512x16, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x16, .f32⟩
  | .hbm, ⟨9, _⟩ => ⟨S512x16, .f32⟩
  | .hbm, ⟨10, _⟩ => ⟨S512x16, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S512x16, .f32⟩
  | .hbm, ⟨15, _⟩ => ⟨S512x16, .f32⟩
  | .hbm, ⟨16, _⟩ => ⟨S512, .i32⟩
  | .hbm, ⟨17, _⟩ => ⟨S512x1, .i32⟩
  | .hbm, ⟨18, _⟩ => ⟨S512, .i32⟩
  | .hbm, ⟨19, _⟩ => ⟨S512x1, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S_, .i32⟩
  | .hbm, ⟨29, _⟩ => ⟨S512, .i32⟩
  | .hbm, ⟨30, _⟩ => ⟨S512, .i1⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S512x1, .i32⟩
  | .hbm, ⟨36, _⟩ => ⟨S512x1, .i32⟩
  | .hbm, ⟨37, _⟩ => ⟨S512x2, .i32⟩
  | .hbm, ⟨38, _⟩ => ⟨S512, .f32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S_, .i32⟩
  | .hbm, ⟨47, _⟩ => ⟨S512, .i32⟩
  | .hbm, ⟨48, _⟩ => ⟨S512, .i1⟩
  | .hbm, ⟨49, _⟩ => ⟨S_, .i32⟩
  | .hbm, ⟨50, _⟩ => ⟨S512, .i32⟩
  | .hbm, ⟨51, _⟩ => ⟨S512, .i32⟩
  | .hbm, ⟨52, _⟩ => ⟨S512, .i32⟩
  | .hbm, ⟨53, _⟩ => ⟨S512x1, .i32⟩
  | .hbm, ⟨54, _⟩ => ⟨S512x1, .i32⟩
  | .hbm, ⟨55, _⟩ => ⟨S512x2, .i32⟩
  | .hbm, ⟨56, _⟩ => ⟨S512, .f32⟩
  | .hbm, ⟨57, _⟩ => ⟨S512, .f32⟩
  | .hbm, ⟨58, _⟩ => ⟨S_, .i32⟩
  | .hbm, ⟨59, _⟩ => ⟨S512, .i32⟩
  | .hbm, ⟨60, _⟩ => ⟨S512, .i1⟩
  | .hbm, ⟨61, _⟩ => ⟨S_, .i32⟩
  | .hbm, ⟨62, _⟩ => ⟨S512, .i32⟩
  | .hbm, ⟨63, _⟩ => ⟨S512, .i32⟩
  | .hbm, ⟨64, _⟩ => ⟨S512, .i32⟩
  | .hbm, ⟨65, _⟩ => ⟨S512x1, .i32⟩
  | .hbm, ⟨66, _⟩ => ⟨S512x256x512, .f32⟩
  | .hbm, ⟨67, _⟩ => ⟨S512x512, .f32⟩
  | .hbm, ⟨68, _⟩ => ⟨S_, .i32⟩
  | .hbm, ⟨69, _⟩ => ⟨S512, .i32⟩
  | .hbm, ⟨70, _⟩ => ⟨S512, .i1⟩
  | .hbm, ⟨71, _⟩ => ⟨S_, .i32⟩
  | .hbm, ⟨72, _⟩ => ⟨S512, .i32⟩
  | .hbm, ⟨73, _⟩ => ⟨S512, .i32⟩
  | .hbm, ⟨74, _⟩ => ⟨S512, .i32⟩
  | .hbm, ⟨75, _⟩ => ⟨S512x1, .i32⟩
  | .hbm, ⟨76, _⟩ => ⟨S512x256x512, .f32⟩
  | .hbm, ⟨77, _⟩ => ⟨S512x512, .f32⟩
  | .hbm, ⟨78, _⟩ => ⟨S512, .f32⟩
  | .hbm, ⟨79, _⟩ => ⟨S512x1, .f32⟩
  | .hbm, ⟨80, _⟩ => ⟨S512x512, .f32⟩
  | .hbm, ⟨81, _⟩ => ⟨S512x512, .f32⟩
  | .hbm, ⟨82, _⟩ => ⟨S512, .f32⟩
  | .hbm, ⟨83, _⟩ => ⟨S512x1, .f32⟩
  | .hbm, ⟨84, _⟩ => ⟨S512x512, .f32⟩
  | .hbm, ⟨85, _⟩ => ⟨S512x512, .f32⟩
  | .hbm, ⟨86, _⟩ => ⟨S512x512, .f32⟩
  | .hbm, ⟨87, _⟩ => ⟨S512x512, .bf16⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Proof.Mesh.lean ====
/-
# The expert layer on four devices: devices, buffers, views, semaphore cells

Every device names its three peers `q k c` (`k = 0, 1, 2`), the devices `k + 1` further round the ring of four. This module
fixes the buffers the kernel works in, the pieces of them that travel, and the twenty-seven semaphore cells a device owns.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Transfers

@[expose] public section

set_option maxRecDepth 16384

noncomputable section

namespace Cert.Moe

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The round states of the kernel's cells: a cell, and duties numbered by three. -/
abbrev UB : Type := URounds (GSem nD τ sig) (Fin 3)
/-- The launch's ghost state: the pipeline's rounds beside the kernel's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices -/

/-- Peer `k` of device `c`: `k + 1` further round the ring of four. -/
def q (k : Fin 3) (c : Dev nD) : Dev nD := ⟨(c.val + k.val + 9) % 4, Nat.mod_lt _ (by decide)⟩
/-- The number under which a peer's peer is the device itself. -/
def rev (k : Fin 3) : Fin 3 := ⟨2 - k.val, by omega⟩

theorem rev_rev (k : Fin 3) : rev (rev k) = k := by revert k; decide
theorem q_rev (k : Fin 3) (c : Dev nD) : q (rev k) (q k c) = c := by revert k c; decide
theorem q_rev' (k : Fin 3) (c : Dev nD) : q k (q (rev k) c) = c := by revert k c; decide

/-- Going to peer `k` and back is an involution on devices with a peer's number. -/
def swap : Dev nD × Fin 3 ≃ Dev nD × Fin 3 where
  toFun p := (q p.2 p.1, rev p.2)
  invFun p := (q p.2 p.1, rev p.2)
  left_inv p := Prod.ext (q_rev p.2 p.1) (rev_rev p.2)
  right_inv p := Prod.ext (q_rev p.2 p.1) (rev_rev p.2)

theorem dev1_eq (c : Dev nD) : (⟨k0_dev1 c, k0_dev1_lt c⟩ : Dev nD) = q 0 c := Fin.ext (k0_dev1_eq c)
theorem dev2_eq (c : Dev nD) : (⟨k0_dev2 c, k0_dev2_lt c⟩ : Dev nD) = q 1 c := Fin.ext (k0_dev2_eq c)
theorem dev3_eq (c : Dev nD) : (⟨k0_dev3 c, k0_dev3_lt c⟩ : Dev nD) = q 2 c := Fin.ext (k0_dev3_eq c)
theorem dev4_eq (c : Dev nD) : (⟨k0_dev4 c, k0_dev4_lt c⟩ : Dev nD) = q 0 c := Fin.ext (k0_dev4_eq c)
theorem dev5_eq (c : Dev nD) : (⟨k0_dev5 c, k0_dev5_lt c⟩ : Dev nD) = q 0 c := Fin.ext (k0_dev5_eq c)
theorem dev6_eq (c : Dev nD) : (⟨k0_dev6 c, k0_dev6_lt c⟩ : Dev nD) = q 1 c := Fin.ext (k0_dev6_eq c)
theorem dev7_eq (c : Dev nD) : (⟨k0_dev7 c, k0_dev7_lt c⟩ : Dev nD) = q 1 c := Fin.ext (k0_dev7_eq c)
theorem dev8_eq (c : Dev nD) : (⟨k0_dev8 c, k0_dev8_lt c⟩ : Dev nD) = q 2 c := Fin.ext (k0_dev8_eq c)
theorem dev9_eq (c : Dev nD) : (⟨k0_dev9 c, k0_dev9_lt c⟩ : Dev nD) = q 2 c := Fin.ext (k0_dev9_eq c)
theorem dev10_eq (c : Dev nD) : (⟨k0_dev10 c, k0_dev10_lt c⟩ : Dev nD) = q 0 c := Fin.ext (k0_dev10_eq c)
theorem dev11_eq (c : Dev nD) : (⟨k0_dev11 c, k0_dev11_lt c⟩ : Dev nD) = q 1 c := Fin.ext (k0_dev11_eq c)
theorem dev12_eq (c : Dev nD) : (⟨k0_dev12 c, k0_dev12_lt c⟩ : Dev nD) = q 2 c := Fin.ext (k0_dev12_eq c)
theorem dev13_eq (c : Dev nD) : (⟨k0_dev13 c, k0_dev13_lt c⟩ : Dev nD) = q 0 c := Fin.ext (k0_dev13_eq c)
theorem dev14_eq (c : Dev nD) : (⟨k0_dev14 c, k0_dev14_lt c⟩ : Dev nD) = q 1 c := Fin.ext (k0_dev14_eq c)
theorem dev15_eq (c : Dev nD) : (⟨k0_dev15 c, k0_dev15_lt c⟩ : Dev nD) = q 2 c := Fin.ext (k0_dev15_eq c)

/-! ## Buffers -/

abbrev aM : Memref sig .tc .hbm S512x256 .f32 := Memref.whole main_arg0
abbrev gM : Memref sig .tc .hbm S4x256x512 .f32 := Memref.whole main_arg3
abbrev pM : Memref sig .tc .vmem S256x16 .f32 := Memref.whole cc0_stg0_0
abbrev iM : Memref sig .tc .vmem S512x2 .i32 := Memref.whole cc0_stg1_0
abbrev oM : Memref sig .tc .vmem S512x512 .bf16 := Memref.whole cc0_stg2_0
abbrev xM : Memref sig .tc .vmem S512x256 .f32 := Memref.whole cc0_scratch0
abbrev eM : Memref sig .tc .vmem S4x256x512 .f32 := Memref.whole cc0_scratch1
abbrev bM : Memref sig .tc .vmem S4x256x512 .bf16 := Memref.whole cc0_scratch2
abbrev wM : Memref sig .tc .vmem S512x4 .f32 := Memref.whole cc0_scratch3
abbrev sM : Memref sig .tc .vmem S3x128x512 .bf16 := Memref.whole cc0_scratch4
abbrev rM : Memref sig .tc .vmem S3x128x512 .bf16 := Memref.whole cc0_scratch5

/-! ## The pieces that travel -/

theorem halfR_inb (k : Fin 3) (h : Fin 2) : ∀ a, (![k.val, 64 * h.val, 0] : Fin 3 → ℕ) a + S1x64x512.size a ≤ S3x128x512.size a := by
  revert k h; decide
theorem slabR_inb (k : Fin 3) : ∀ a, (![k.val, 0, 0] : Fin 3 → ℕ) a + S1x128x512.size a ≤ S3x128x512.size a := by
  revert k; decide
/-- Half `h` of slab `k` of a buffer of three slabs. -/
abbrev halfR (k : Fin 3) (h : Fin 2) : Rect S3x128x512 := Rect.unit (s := S3x128x512) ![k.val, 64 * h.val, 0] S1x64x512.size (halfR_inb k h)
/-- Slab `k`. -/
abbrev slabR (k : Fin 3) : Rect S3x128x512 := Rect.unit (s := S3x128x512) ![k.val, 0, 0] S1x128x512.size (slabR_inb k)
/-- Half `h` of slab `k` as the two-axis view the transfers use. -/
abbrev half (M : Memref sig .tc .vmem S3x128x512 .bf16) (k : Fin 3) (h : Fin 2) : Memref sig .tc .vmem S64x512 .bf16 :=
  (M.slice (halfR k h) (fun _ => rfl)).squeeze S64x512 squeezes_S1x64x512_S64x512

theorem rowR_inb (u : Dev nD) (h : Fin 2) : ∀ a, (![128 * u.val + 64 * h.val, 0] : Fin 2 → ℕ) a + S64x512.size a ≤ S512x512.size a := by
  revert u h; decide
/-- The rows of half `h` of device `u`'s chunk of the result. -/
abbrev rowR (u : Dev nD) (h : Fin 2) : Rect S512x512 := Rect.unit (s := S512x512) ![128 * u.val + 64 * h.val, 0] S64x512.size (rowR_inb u h)
/-- Those rows as a view of the result's staging buffer. -/
abbrev rows (u : Dev nD) (h : Fin 2) : Memref sig .tc .vmem S64x512 .bf16 := oM.slice (rowR u h) (fun _ => rfl)

theorem off6_eq (c : Dev nD) (h : Fin 2) : k0_off6 c (BitVec.ofNat 32 (64 * h.val)) = ![128 * c.val + 64 * h.val, 0] := k0_off6_eq c h
theorem off5_eq (c : Dev nD) (h : Fin 2) : k0_off5 c (BitVec.ofNat 32 (64 * h.val)) = ![128 * c.val + 64 * h.val, 0] := k0_off5_eq c h

/-- Slices at equal offsets are equal. -/
theorem slice_congr {off off' : Fin 2 → ℕ} (h : off = off') (inb : ∀ a, off a + S64x512.size a ≤ S512x512.size a) (inb' : ∀ a, off' a + S64x512.size a ≤ S512x512.size a) :
    (oM.slice (Rect.unit (s := S512x512) off S64x512.size inb) (fun _ => rfl) : Memref sig .tc .vmem S64x512 .bf16) = oM.slice (Rect.unit (s := S512x512) off' S64x512.size inb') (fun _ => rfl) := by
  subst h; rfl

theorem rows0_eq (c : Dev nD) : (oM.slice (Rect.unit (s := S512x512) (k0_off6 c 0#32) S64x512.size (k0_off6_inb c 0)) (fun _ => rfl) : Memref sig .tc .vmem S64x512 .bf16) = rows c 0 :=
  slice_congr (off6_eq c 0) _ _
theorem rows1_eq (c : Dev nD) : (oM.slice (Rect.unit (s := S512x512) (k0_off6 c 64#32) S64x512.size (k0_off6_inb c 1)) (fun _ => rfl) : Memref sig .tc .vmem S64x512 .bf16) = rows c 1 :=
  slice_congr (off6_eq c 1) _ _

/-! ### Where the pieces lie -/

theorem half_set (M : Memref sig .tc .vmem S3x128x512 .bf16) (k : Fin 3) (h : Fin 2) : (half M k h).view.set = (M.view.slice (halfR k h)).set := by
  exact View.set_reshape _ _
theorem sM_half_set (k : Fin 3) (h : Fin 2) : (half sM k h).view.set = (halfR k h).set := (half_set sM k h).trans (View.set_slice_whole _ _)
theorem rM_half_set (k : Fin 3) (h : Fin 2) : (half rM k h).view.set = (halfR k h).set := (half_set rM k h).trans (View.set_slice_whole _ _)
theorem rows_set (u : Dev nD) (h : Fin 2) : (rows u h).view.set = (rowR u h).set := View.set_slice_whole _ _

theorem mem_halfR {k : Fin 3} {h : Fin 2} {i : S3x128x512.Idx} : i ∈ (halfR k h).set ↔ (i 0).val = k.val ∧ (i 1).val / 64 = h.val := by
  rw [Rect.mem_set_unit, Fin.forall_fin_succ, Fin.forall_fin_succ, Fin.forall_fin_succ]
  have h0 := (i 0).isLt; have h1 := (i 1).isLt; have h2 := (i 2).isLt
  change (i 0).val < 3 at h0; change (i 1).val < 128 at h1; change (i 2).val < 512 at h2
  show ((k.val ≤ (i 0).val ∧ (i 0).val < k.val + 1) ∧ (64 * h.val ≤ (i 1).val ∧ (i 1).val < 64 * h.val + 64) ∧ (0 ≤ (i 2).val ∧ (i 2).val < 0 + 512) ∧ _) ↔ _
  have hh := h.isLt
  constructor
  · rintro ⟨a, b, -⟩; omega
  · rintro ⟨a, b⟩; exact ⟨by omega, by omega, by omega, fun a => a.elim0⟩
theorem mem_slabR {k : Fin 3} {i : S3x128x512.Idx} : i ∈ (slabR k).set ↔ (i 0).val = k.val := by
  rw [Rect.mem_set_unit, Fin.forall_fin_succ, Fin.forall_fin_succ, Fin.forall_fin_succ]
  have h0 := (i 0).isLt; have h1 := (i 1).isLt; have h2 := (i 2).isLt
  change (i 0).val < 3 at h0; change (i 1).val < 128 at h1; change (i 2).val < 512 at h2
  show ((k.val ≤ (i 0).val ∧ (i 0).val < k.val + 1) ∧ (0 ≤ (i 1).val ∧ (i 1).val < 0 + 128) ∧ (0 ≤ (i 2).val ∧ (i 2).val < 0 + 512) ∧ _) ↔ _
  constructor
  · rintro ⟨a, -⟩; omega
  · intro a; exact ⟨by omega, by omega, by omega, fun a => a.elim0⟩
theorem mem_rowR {u : Dev nD} {h : Fin 2} {i : S512x512.Idx} : i ∈ (rowR u h).set ↔ (i 0).val / 128 = u.val ∧ (i 0).val / 64 % 2 = h.val := by
  rw [Rect.mem_set_unit, Fin.forall_fin_succ, Fin.forall_fin_succ]
  have h0 := (i 0).isLt; have h1 := (i 1).isLt
  change (i 0).val < 512 at h0; change (i 1).val < 512 at h1
  show ((128 * u.val + 64 * h.val ≤ (i 0).val ∧ (i 0).val < 128 * u.val + 64 * h.val + 64) ∧ (0 ≤ (i 1).val ∧ (i 1).val < 0 + 512) ∧ _) ↔ _
  have hh := h.isLt
  constructor
  · rintro ⟨a, -⟩; omega
  · rintro ⟨a, b⟩; exact ⟨by omega, by omega, fun a => a.elim0⟩

theorem slab_union (k : Fin 3) : (slabR k).set = (halfR k 0).set ∪ (halfR k 1).set := by
  ext i
  rw [Finset.mem_union, mem_slabR, mem_halfR, mem_halfR]
  have h1 := (i 1).isLt; change (i 1).val < 128 at h1
  show _ ↔ (_ ∧ _ = 0) ∨ (_ ∧ _ = 1)
  omega
theorem slab_disj (k : Fin 3) : Disjoint (halfR k 0).set (halfR k 1).set := by
  rw [Finset.disjoint_left]; intro i hi hj
  rw [mem_halfR] at hi hj
  have := hi.2.symm.trans hj.2
  exact absurd this (by decide)
theorem slabs_univ : (Finset.univ : Finset S3x128x512.Idx) = (Finset.univ : Finset (Fin 3)).biUnion (fun k => (slabR k).set) := by
  ext i
  simp only [Finset.mem_univ, Finset.mem_biUnion, true_and, mem_slabR, true_iff]
  exact ⟨i 0, rfl⟩
theorem slabs_disj (k k' : Fin 3) (h : k ≠ k') : Disjoint (slabR k).set (slabR k').set := by
  rw [Finset.disjoint_left]; intro i hi hj
  rw [mem_slabR] at hi hj
  exact h (Fin.ext (hi.symm.trans hj))
theorem rows_univ : (Finset.univ : Finset S512x512.Idx) = (Finset.univ : Finset (Dev nD)).biUnion (fun u => (rowR u 0).set ∪ (rowR u 1).set) := by
  ext i
  simp only [Finset.mem_univ, Finset.mem_biUnion, true_and, Finset.mem_union, mem_rowR, true_iff]
  have h0 := (i 0).isLt; change (i 0).val < 512 at h0
  refine ⟨⟨(i 0).val / 128, by show _ < 4; omega⟩, ?_⟩
  show (_ ∧ _ = 0) ∨ (_ ∧ _ = 1)
  simp only [true_and]
  omega
theorem rows_disj (u : Dev nD) : Disjoint (rowR u 0).set (rowR u 1).set := by
  rw [Finset.disjoint_left]; intro i hi hj
  rw [mem_rowR] at hi hj
  exact absurd (hi.2.symm.trans hj.2) (by decide)
theorem chunks_disj (u u' : Dev nD) (h : u ≠ u') : Disjoint ((rowR u 0).set ∪ (rowR u 1).set) ((rowR u' 0).set ∪ (rowR u' 1).set) := by
  rw [Finset.disjoint_left]; intro i hi hj
  rw [Finset.mem_union, mem_rowR, mem_rowR] at hi hj
  have h1 : (i 0).val / 128 = u.val := hi.elim (·.1) (·.1)
  have h2 : (i 0).val / 128 = u'.val := hj.elim (·.1) (·.1)
  exact h (Fin.ext (h1.symm.trans h2))

end Cert.Moe

end
-- ==== Proof.Sched.lean ====
/-
# The expert layer on four devices: contents, cells, schedule

For each semaphore cell: who signals or copies onto it, how much, and what its single round hands over.

* the barrier of `c` (three units): peer `j` of `c` signals once and hands over the landing slot of its own that `c` will
  fill, and the rows of its result staging that `c` will fill, both at contents nobody reads;
* the two arrival cells of `c`: the token activations and the expert weights copied in whole, with their source;
* the reduce-scatter send cells of `c`: the piece of the send buffer back; the receive cells: the landing slot filled;
* the all-gather send cells of `c`: the share of `c`'s own rows back; the receive cells: peer `j`'s rows of the result.

Every landing is stated with its contents: a landing slot holds the partial product the sender computed for this device,
a row of the result holds the reduced value, the same on all four devices.
-/
module

public import proofs.«01_k».proof.Proof.Mesh

@[expose] public section

set_option maxRecDepth 16384

noncomputable section

namespace Cert.Moe

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- The activations device `c` was given. -/
def xB (c : Dev nD) : Buf (Elt F) ((c : Thread nD τ).loc cc0_scratch0) := m ((c : Thread nD τ).loc main_arg0)
/-- The expert weights device `c` was given. -/
def gB (c : Dev nD) : Buf (Elt F) ((c : Thread nD τ).loc cc0_scratch1) := m ((c : Thread nD τ).loc main_arg3)
/-- The router weights as staged. -/
def pB (c : Dev nD) : Buf (Elt F) ((c : Thread nD τ).loc cc0_stg0_0) := iblk m c 0 t0_0
/-- The routing indices as staged. -/
def iB (c : Dev nD) : Buf (Elt F) ((c : Thread nD τ).loc cc0_stg1_0) := iblk m c 1 t0_0

/-- The device's number as the kernel computes it. -/
def vw (c : Dev nD) : BitVec 32 := Scalar.remsi (Scalar.divsi (Dev.word c) 1#32) 4#32

/-- The two columns of routing indices. -/
def i0 (c : Dev nD) : Vec F S512x1 .i32 :=
  (iM : Memref sig .tc .vmem S512x2 .i32).view.readAt (Elt F) (Rect.unit (s := S512x2) ![0, 0] S512x1.size inb_S512x2_S512x1_0_0).toLoadRect (iB m c)
def i1 (c : Dev nD) : Vec F S512x1 .i32 :=
  (iM : Memref sig .tc .vmem S512x2 .i32).view.readAt (Elt F) (Rect.unit (s := S512x2) ![0, 1] S512x1.size inb_S512x2_S512x1_0_1).toLoadRect (iB m c)

/-- The gate of each token for each of the device's four experts. -/
def wB (c : Dev nD) : Buf (Elt F) ((c : Thread nD τ).loc cc0_scratch3) :=
  k0_pay11 (vw c) (k0_pay2 (i0 m c)) (k0_pay3 (i1 m c)) (k0_pay7 (xB m c) (pB m c) (i0 m c) (i1 m c)) (k0_pay8 (xB m c) (pB m c) (i0 m c) (i1 m c))
    (k0_pay9 (vw c) (xB m c) (pB m c) (i0 m c) (i1 m c)) (k0_pay10 (vw c) (i1 m c))
/-- The expert weights in the narrow format. -/
def bB (c : Dev nD) : Buf (Elt F) ((c : Thread nD τ).loc cc0_scratch2) := k0_pay12 (gB m c)

/-- Peer `k`'s chunk of the activations and of the gates. -/
def xr (c : Dev nD) (k : Fin 3) : Vec F S128x256 .f32 :=
  (xM : Memref sig .tc .vmem S512x256 .f32).view.readAt (Elt F) (Rect.unit (s := S512x256) (k0_off1 c (BitVec.ofNat 32 k.val)) S128x256.size (k0_off1_inb c k)).toLoadRect (xB m c)
def wr (c : Dev nD) (k : Fin 3) : Vec F S128x4 .f32 :=
  (wM : Memref sig .tc .vmem S512x4 .f32).view.readAt (Elt F) (Rect.unit (s := S512x4) (k0_off2 c (BitVec.ofNat 32 k.val)) S128x4.size (k0_off2_inb c k)).toLoadRect (wB m c)
/-- The device's own chunk of them. -/
def xo (c : Dev nD) : Vec F S128x256 .f32 :=
  (xM : Memref sig .tc .vmem S512x256 .f32).view.readAt (Elt F) (Rect.unit (s := S512x256) (k0_off3 c) S128x256.size (k0_off3_inb c)).toLoadRect (xB m c)
def wo (c : Dev nD) : Vec F S128x4 .f32 :=
  (wM : Memref sig .tc .vmem S512x4 .f32).view.readAt (Elt F) (Rect.unit (s := S512x4) (k0_off4 c) S128x4.size (k0_off4_inb c)).toLoadRect (wB m c)

/-- The partial product device `c` computes for its peer `k`. -/
def part (c : Dev nD) (k : Fin 3) : FVec F S1x128x512 .bf16 := k0_pay14 (bB m c) (xr m c k) (wr m c k)
/-- The partial product it computes for itself. -/
def mine (c : Dev nD) : FVec F S128x512 .f32 := k0_pay21 (k0_pay13 (bB m c)) (xo m c) (wo m c)

/-- The send buffer once every slab is stored. -/
def sendB (c : Dev nD) : Buf (Elt F) ((c : Thread nD τ).loc cc0_scratch4) :=
  fun i : S3x128x512.Idx => part m c (i 0) (fun | 0 => (0 : Fin 1) | 1 => i 1 | 2 => i 2)
/-- The landing buffer once every slot is filled: slot `j` holds what peer `j` computed for this device. -/
def recvB (c : Dev nD) : Buf (Elt F) ((c : Thread nD τ).loc cc0_scratch5) :=
  fun i : S3x128x512.Idx => part m (q (i 0) c) (rev (i 0)) (fun | 0 => (0 : Fin 1) | 1 => i 1 | 2 => i 2)
/-- Half `h` of landing slot `j`. -/
def slot (c : Dev nD) (j : Fin 3) (h : Fin 2) : Vec F S1x64x512 .bf16 :=
  (rM : Memref sig .tc .vmem S3x128x512 .bf16).view.readAt (Elt F) (halfR j h).toLoadRect (recvB m c)
/-- The reduced rows of device `c`'s chunk. -/
def red (c : Dev nD) (h : Fin 2) : FVec F S64x512 .bf16 :=
  match h with
  | 0 => k0_pay24 (k0_pay22 (mine m c) (slot m c 0 0) (slot m c 1 0)) (k0_pay23 (slot m c 2 0))
  | 1 => k0_pay26 (k0_pay25 (mine m c) (slot m c 0 1)) (slot m c 1 1) (slot m c 2 1)
theorem chunk_lt (i : S512x512.Idx) : (i 0).val / 128 < nD := by
  have h0 := (i 0).isLt; change (i 0).val < 512 at h0; show _ < 4; omega
/-- The result, the same on every device. -/
def outB (c : Dev nD) : Buf (Elt F) ((c : Thread nD τ).loc cc0_stg2_0) :=
  fun i : S512x512.Idx => red m ⟨(i 0).val / 128, chunk_lt i⟩ ⟨(i 0).val / 64 % 2, Nat.mod_lt _ (by decide)⟩
    (fun | 0 => (⟨(i 0).val % 64, Nat.mod_lt _ (by decide)⟩ : Fin 64) | 1 => i 1)

/-! ## Ownership of the pieces -/

/-- A piece of the send buffer. -/
def sPt (c : Dev nD) (k : Fin 3) (h : Fin 2) (f : Buf (Elt F) ((c : Thread nD τ).loc cc0_scratch4)) : sProp 𝕄 :=
  ((half sM k h).view.loc (c : Thread nD τ)) ↦[(half sM k h).view.set]{fullShare} f
/-- A piece of the landing buffer. -/
def rPt (c : Dev nD) (k : Fin 3) (h : Fin 2) (f : Buf (Elt F) ((c : Thread nD τ).loc cc0_scratch5)) : sProp 𝕄 :=
  ((half rM k h).view.loc (c : Thread nD τ)) ↦[(half rM k h).view.set]{fullShare} f
/-- Rows of the result's staging buffer, at a share. -/
def oPt (c u : Dev nD) (h : Fin 2) (s : PosShare TreeShare) (f : Buf (Elt F) ((c : Thread nD τ).loc cc0_stg2_0)) : sProp 𝕄 :=
  ((rows u h).view.loc (c : Thread nD τ)) ↦[(rows u h).view.set]{s} f
/-- The `k`-th share of the device's own rows, lent to the transfer to peer `k`. -/
abbrev lent (k : Fin 3) : PosShare TreeShare := Transfers.shareTok fullShare 3 k

/-- What device `c`'s peer `j` hands over with its barrier signal. -/
def barPay (c : Dev nD) (j : Fin 3) : sProp 𝕄 :=
  iprop((∃ f, rPt (q j c) (rev j) 0 f) ∗ (∃ f, rPt (q j c) (rev j) 1 f) ∗ (∃ f, oPt (q j c) c 0 fullShare f) ∗ (∃ f, oPt (q j c) c 1 fullShare f))
def in0Pay (c : Dev nD) : sProp 𝕄 :=
  iprop((((c : Thread nD τ).loc cc0_scratch0) ↦{fullShare} xB m c) ∗ (((c : Thread nD τ).loc main_arg0) ↦{fullShare} m ((c : Thread nD τ).loc main_arg0)))
def in1Pay (c : Dev nD) : sProp 𝕄 :=
  iprop((((c : Thread nD τ).loc cc0_scratch1) ↦{fullShare} gB m c) ∗ (((c : Thread nD τ).loc main_arg3) ↦{fullShare} m ((c : Thread nD τ).loc main_arg3)))

instance sPt_storable (c k h f) : BI.Storable (upEmb : UEmb _ 𝕄) (sPt (F := F) c k h f) := by unfold sPt; infer_instance
instance rPt_storable (c k h f) : BI.Storable (upEmb : UEmb _ 𝕄) (rPt (F := F) c k h f) := by unfold rPt; infer_instance
instance oPt_storable (c u h s f) : BI.Storable (upEmb : UEmb _ 𝕄) (oPt (F := F) c u h s f) := by unfold oPt; infer_instance

/-! ## The semaphore cells -/

abbrev barS : Sem sig := (SemArray.scalar (sig.barrier 0 rfl) : Sems sig S_).sem
def inS (i : Fin 2) : DmaSem sig := ⟨3 + i.val, by have := i.isLt; show _ < 29; omega⟩
def rsS (k : Fin 3) (h : Fin 2) : DmaSem sig := ⟨5 + (2 * k.val + h.val), by have := k.isLt; have := h.isLt; show _ < 29; omega⟩
def rsR (k : Fin 3) (h : Fin 2) : DmaSem sig := ⟨11 + (2 * k.val + h.val), by have := k.isLt; have := h.isLt; show _ < 29; omega⟩
def agS (k : Fin 3) (h : Fin 2) : DmaSem sig := ⟨17 + (2 * k.val + h.val), by have := k.isLt; have := h.isLt; show _ < 29; omega⟩
def agR (k : Fin 3) (h : Fin 2) : DmaSem sig := ⟨23 + (2 * k.val + h.val), by have := k.isLt; have := h.isLt; show _ < 29; omega⟩

abbrev barC (c : Dev nD) : GSem nD τ sig := ((c : Thread nD τ), .reg barS)
abbrev dmaC (c : Dev nD) (p : DmaSem sig) : GSem nD τ sig := ((c : Thread nD τ), .dma p)

/-- What a transfer of a half slab, or of half a chunk of rows, credits. -/
abbrev N : ℕ := (half rM 0 0).view.dmaCredit
abbrev N0 : ℕ := (xM : Memref sig .tc .vmem S512x256 .f32).view.dmaCredit
abbrev N1 : ℕ := (eM : Memref sig .tc .vmem S4x256x512 .f32).view.dmaCredit
theorem N_pos : 0 < N := View.dmaCredit_pos _ (by decide)
theorem N0_pos : 0 < N0 := View.dmaCredit_pos _ (by decide)
theorem N1_pos : 0 < N1 := View.dmaCredit_pos _ (by decide)

/-- Position `n` of a family of six cells: which peer, which half. -/
def kOf (n : ℕ) : Fin 3 := ⟨n / 2 % 3, Nat.mod_lt _ (by decide)⟩
def hOf (n : ℕ) : Fin 2 := ⟨n % 2, Nat.mod_lt _ (by decide)⟩
theorem kOf_at (k : Fin 3) (h : Fin 2) : kOf (2 * k.val + h.val) = k := by revert k h; decide
theorem hOf_at (k : Fin 3) (h : Fin 2) : hOf (2 * k.val + h.val) = h := by revert k h; decide

/-- What the round of DMA cell `n` of device `c` hands over. -/
def dmaPay (c : Dev nD) (n : ℕ) : sProp 𝕄 :=
  if n = 3 then in0Pay m c
  else if n = 4 then in1Pay m c
  else if n < 11 then sPt c (kOf (n - 5)) (hOf (n - 5)) (sendB m c)
  else if n < 17 then rPt c (kOf (n - 11)) (hOf (n - 11)) (recvB m c)
  else if n < 23 then oPt c c (hOf (n - 17)) (lent (kOf (n - 17))) (outB m c)
  else oPt c (q (kOf (n - 23)) c) (hOf (n - 23)) fullShare (outB m c)
def dmaAmt (n : ℕ) : ℕ := if n = 3 then N0 else if n = 4 then N1 else N

/-- The duties of a cell's round. -/
def dutyOf : SemLoc sig → Finset (Fin 3)
  | .reg s => if s = barS then Finset.univ else ∅
  | .dma p => if 3 ≤ p.val then {0} else ∅

/-- One round per cell: three duties on the barrier, one on every DMA cell of the kernel's own. -/
def rd : Rounds.Schedule (GSem nD τ sig) (Fin 3) 𝕄 where
  duties g r := if r = 0 ∧ g.1.2 = .tc then dutyOf g.2 else ∅
  unitless _ := False
  amount g _ _ := match g.2 with
    | .reg _ => 1
    | .dma p => dmaAmt p.val
  payload g _ d := match g.2 with
    | .reg _ => barPay g.1.1 d
    | .dma p => dmaPay m g.1.1 p.val
  amount_pos g _ _ _ := by
    cases g.2 with
    | reg s => exact Nat.one_pos
    | dma p =>
      show 0 < dmaAmt p.val
      unfold dmaAmt
      split
      · exact N0_pos
      split
      · exact N1_pos
      · exact N_pos

instance rd_payload_storable (g : GSem nD τ sig) (r : ℕ) (d : Fin 3) : BI.Storable (upEmb : UEmb _ 𝕄) ((rd (F := F) m).payload g r d) := by
  obtain ⟨t, sm⟩ := g
  cases sm with
  | reg s =>
    show BI.Storable upEmb (barPay t.1 d)
    unfold barPay; infer_instance
  | dma p =>
    show BI.Storable upEmb (dmaPay m t.1 p.val)
    unfold dmaPay in0Pay in1Pay
    (repeat' split) <;> infer_instance

/-! ### The schedule read at each cell -/

section Sched
variable (c : Dev nD)

theorem duties_tc (sm : SemLoc sig) : (rd (F := F) m).duties ((c : Thread nD τ), sm) 0 = dutyOf sm := by
  dsimp only [rd]; exact if_pos ⟨rfl, rfl⟩
theorem duties_bar : (rd (F := F) m).duties (barC c) 0 = Finset.univ := by
  rw [duties_tc]; unfold dutyOf; exact if_pos rfl
theorem duties_dma (p : DmaSem sig) (hp : 3 ≤ p.val) : (rd (F := F) m).duties (dmaC c p) 0 = {0} := by
  rw [duties_tc]; unfold dutyOf; exact if_pos hp
theorem duties_later (g : GSem nD τ sig) : ∀ r, 1 ≤ r → (rd (F := F) m).duties g r = ∅ :=
  fun r hr => by dsimp only [rd]; exact if_neg fun h => by omega
theorem amount_bar (d : Fin 3) : (rd (F := F) m).amount (barC c) 0 d = 1 := rfl
theorem amount_dma (p : DmaSem sig) (d : Fin 3) : (rd (F := F) m).amount (dmaC c p) 0 d = dmaAmt p.val := rfl
theorem expect_bar : (rd (F := F) m).expect (barC c) 0 = 3 := by
  unfold Schedule.expect Schedule.amountOf; rw [duties_bar]; rfl
theorem expect_dma (p : DmaSem sig) (hp : 3 ≤ p.val) : (rd (F := F) m).expect (dmaC c p) 0 = dmaAmt p.val := by
  unfold Schedule.expect Schedule.amountOf; rw [duties_dma m c p hp, Finset.sum_singleton, amount_dma]
theorem payload_bar (d : Fin 3) : (rd (F := F) m).payload (barC c) 0 d = barPay c d := rfl
theorem payload_dma (p : DmaSem sig) (d : Fin 3) : (rd (F := F) m).payload (dmaC c p) 0 d = dmaPay m c p.val := rfl
theorem rest_bar : bigSep ((rd (F := F) m).duties (barC c) 0 \ ∅) (fun u => (rd (F := F) m).payload (barC c) 0 u) = bigSep Finset.univ (fun j => barPay c j) := by
  rw [Finset.sdiff_empty, duties_bar]; rfl
theorem rest_dma (p : DmaSem sig) (hp : 3 ≤ p.val) :
    bigSep ((rd (F := F) m).duties (dmaC c p) 0 \ ∅) (fun u => (rd (F := F) m).payload (dmaC c p) 0 u) = dmaPay m c p.val := by
  rw [Finset.sdiff_empty, duties_dma m c p hp, bigSep_singleton, payload_dma]

theorem amt_six (n : ℕ) : dmaAmt (5 + n) = N := by
  unfold dmaAmt; rw [if_neg (by omega), if_neg (by omega)]
theorem amt_rsS (k : Fin 3) (h : Fin 2) : dmaAmt (rsS k h).val = N := amt_six _
theorem amt_rsR (k : Fin 3) (h : Fin 2) : dmaAmt (rsR k h).val = N := (congrArg dmaAmt (show 11 + (2 * k.val + h.val) = 5 + (6 + (2 * k.val + h.val)) by omega)).trans (amt_six _)
theorem amt_agS (k : Fin 3) (h : Fin 2) : dmaAmt (agS k h).val = N := (congrArg dmaAmt (show 17 + (2 * k.val + h.val) = 5 + (12 + (2 * k.val + h.val)) by omega)).trans (amt_six _)
theorem amt_agR (k : Fin 3) (h : Fin 2) : dmaAmt (agR k h).val = N := (congrArg dmaAmt (show 23 + (2 * k.val + h.val) = 5 + (18 + (2 * k.val + h.val)) by omega)).trans (amt_six _)

theorem pay_in0 : dmaPay m c (inS 0).val = in0Pay m c := if_pos rfl
theorem pay_in1 : dmaPay m c (inS 1).val = in1Pay m c := (if_neg (by decide)).trans (if_pos rfl)
theorem pay_rsS (k : Fin 3) (h : Fin 2) : dmaPay m c (rsS k h).val = sPt c k h (sendB m c) := by
  have e : dmaPay (F := F) m c (5 + (2 * k.val + h.val)) = sPt c k h (sendB m c) := by
    have hk := k.isLt; have hh := h.isLt
    unfold dmaPay
    rw [if_neg (by omega), if_neg (by omega), if_pos (by omega), Nat.add_sub_cancel_left, kOf_at, hOf_at]
  exact e
theorem pay_rsR (k : Fin 3) (h : Fin 2) : dmaPay m c (rsR k h).val = rPt c k h (recvB m c) := by
  have e : dmaPay (F := F) m c (11 + (2 * k.val + h.val)) = rPt c k h (recvB m c) := by
    have hk := k.isLt; have hh := h.isLt
    unfold dmaPay
    rw [if_neg (by omega), if_neg (by omega), if_neg (by omega), if_pos (by omega), Nat.add_sub_cancel_left, kOf_at, hOf_at]
  exact e
theorem pay_agS (k : Fin 3) (h : Fin 2) : dmaPay m c (agS k h).val = oPt c c h (lent k) (outB m c) := by
  have e : dmaPay (F := F) m c (17 + (2 * k.val + h.val)) = oPt c c h (lent k) (outB m c) := by
    have hk := k.isLt; have hh := h.isLt
    unfold dmaPay
    rw [if_neg (by omega), if_neg (by omega), if_neg (by omega), if_neg (by omega), if_pos (by omega), Nat.add_sub_cancel_left, kOf_at, hOf_at]
  exact e
theorem pay_agR (k : Fin 3) (h : Fin 2) : dmaPay m c (agR k h).val = oPt c (q k c) h fullShare (outB m c) := by
  have e : dmaPay (F := F) m c (23 + (2 * k.val + h.val)) = oPt c (q k c) h fullShare (outB m c) := by
    have hk := k.isLt; have hh := h.isLt
    unfold dmaPay
    rw [if_neg (by omega), if_neg (by omega), if_neg (by omega), if_neg (by omega), if_neg (by omega), Nat.add_sub_cancel_left, kOf_at, hOf_at]
  exact e

end Sched

/-! ## What a device owes, in the order it pays; the levels of the cells -/

/-- The dues of device `c` in program order: the three barrier signals, the six reduce-scatter landings, the three
    all-gather landings of the first halves, the three of the second halves. -/
def dues (c : Dev nD) : List (GSem nD τ sig × ℕ) :=
  [(barC (q 0 c), 1), (barC (q 1 c), 1), (barC (q 2 c), 1),
   (dmaC (q 0 c) (rsR (rev 0) 0), N), (dmaC (q 0 c) (rsR (rev 0) 1), N),
   (dmaC (q 1 c) (rsR (rev 1) 0), N), (dmaC (q 1 c) (rsR (rev 1) 1), N),
   (dmaC (q 2 c) (rsR (rev 2) 0), N), (dmaC (q 2 c) (rsR (rev 2) 1), N),
   (dmaC (q 0 c) (agR (rev 0) 0), N), (dmaC (q 1 c) (agR (rev 1) 0), N), (dmaC (q 2 c) (agR (rev 2) 0), N),
   (dmaC (q 0 c) (agR (rev 0) 1), N), (dmaC (q 1 c) (agR (rev 1) 1), N), (dmaC (q 2 c) (agR (rev 2) 1), N)]
/-- A list of dues as a tally. -/
def tot : List (GSem nD τ sig × ℕ) → CellTallies nD τ sig Unit
  | [] => 0
  | p :: l => tot l + tallyAt p.1 () p.2
/-- What is still owed after the first `n` dues. -/
def owed (c : Dev nD) (n : ℕ) : CellTallies nD τ sig Unit := tot ((dues c).drop n)

def L (g : GSem nD τ sig) : Finset Unit := if g.1.2 = .tc then {()} else ∅
def lvOf : SemLoc sig → ℕ
  | .reg _ => 1
  | .dma p => if p.val < 11 then 0 else if p.val < 17 then 2 else if p.val < 23 then 0 else 3
def lv (g : GSem nD τ sig) (_ : Unit) : ℕ := lvOf g.2
theorem L_of_ne (g : GSem nD τ sig) (h : g.1.2 ≠ .tc) : L g = ∅ := if_neg h
theorem L_tc (c : Dev nD) (sm : SemLoc sig) : L ((c : Thread nD τ), sm) = {()} := if_pos rfl

theorem tot_pos {l : List (GSem nD τ sig × ℕ)} {g : GSem nD τ sig} {u : Unit} (h : 0 < tot l g u) : ∃ p ∈ l, g = p.1 := by
  induction l with
  | nil => exact absurd h (Nat.lt_irrefl 0)
  | cons p l ih =>
    unfold tot at h
    rw [Pi.add_apply, Finsupp.add_apply, tallyAt_apply] at h
    by_cases hg : g = p.1 ∧ u = ()
    · exact ⟨p, List.mem_cons_self, hg.1⟩
    · rw [if_neg hg, Nat.add_zero] at h
      obtain ⟨p', hp', e⟩ := ih h
      exact ⟨p', List.mem_cons_of_mem _ hp', e⟩

/-- A wait is admissible while every due still owed is on a cell of a higher level. -/
theorem mayWait_list (c : Dev nD) (sm : SemLoc sig) (l : List (GSem nD τ sig × ℕ)) (h : ∀ p ∈ l, p.1.1.2 = .tc ∧ lvOf sm < lvOf p.1.2) :
    (levAts L lv : sProp 𝕄) ⊢ MayWait (c : Thread nD τ) sm () (tot l) :=
  MayOwe.of_cut (L := L) (lev := lv) (lvOf sm) (fun p hp => by rw [Finset.mem_singleton.mp hp, L_tc]; exact Finset.mem_singleton_self _)
    (fun g u hg => by
      obtain ⟨p, hp, rfl⟩ := tot_pos hg
      unfold L; rw [if_pos (h p hp).1]; exact Finset.mem_singleton_self _)
    (fun p hp => by rw [Finset.mem_singleton.mp hp]; exact le_refl _)
    (fun g u hg => by
      obtain ⟨p, hp, rfl⟩ := tot_pos hg
      exact (h p hp).2)

/-- The levels of the dues, in order. -/
theorem dues_levels (c : Dev nD) : (dues c).map (fun p => (p.1.1.2, lvOf p.1.2)) =
    [(.tc, 1), (.tc, 1), (.tc, 1), (.tc, 2), (.tc, 2), (.tc, 2), (.tc, 2), (.tc, 2), (.tc, 2), (.tc, 3), (.tc, 3), (.tc, 3), (.tc, 3), (.tc, 3), (.tc, 3)] := rfl

theorem mayWait_owed (c : Dev nD) (sm : SemLoc sig) (n : ℕ)
    (h : ∀ p ∈ ([(.tc, 1), (.tc, 1), (.tc, 1), (.tc, 2), (.tc, 2), (.tc, 2), (.tc, 2), (.tc, 2), (.tc, 2), (.tc, 3), (.tc, 3), (.tc, 3), (.tc, 3), (.tc, 3), (.tc, 3)] : List (Proc τ × ℕ)).drop n,
      p.1 = .tc ∧ lvOf sm < p.2) :
    (levAts L lv : sProp 𝕄) ⊢ MayWait (c : Thread nD τ) sm () (owed c n) :=
  mayWait_list c sm _ fun p hp => h (p.1.1.2, lvOf p.1.2) (by
    rw [← dues_levels c, ← List.map_drop]
    exact List.mem_map_of_mem hp)

end Cert.Moe

end
-- ==== Proof.Pieces.lean ====
/-
# The expert layer on four devices: splitting, joining and filling the pieces

A buffer of three slabs is its six halves; the result's staging buffer is the rows of the four chunks. What a store or a
landing leaves in a piece is the piece of the contents the schedule states.
-/
module

public import proofs.«01_k».proof.Proof.Sched

@[expose] public section

set_option maxRecDepth 16384

noncomputable section

namespace Cert.Moe

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Slabs and halves -/

/-- A slab of the send buffer. -/
def sSlab (c : Dev nD) (k : Fin 3) (f : Buf (Elt F) ((c : Thread nD τ).loc cc0_scratch4)) : sProp 𝕄 :=
  ((c : Thread nD τ).loc cc0_scratch4) ↦[((slabR k).set : Finset S3x128x512.Idx)]{fullShare} f
/-- A slot of the landing buffer. -/
def rSlab (c : Dev nD) (k : Fin 3) (f : Buf (Elt F) ((c : Thread nD τ).loc cc0_scratch5)) : sProp 𝕄 :=
  ((c : Thread nD τ).loc cc0_scratch5) ↦[((slabR k).set : Finset S3x128x512.Idx)]{fullShare} f

theorem bigSep3 (Φ : Fin 3 → sProp 𝕄) : bigSep Finset.univ Φ = iprop(Φ 0 ∗ Φ 1 ∗ Φ 2) := bigSep_W0 Φ

/-- The send buffer is its three slabs. -/
theorem s_slabs (c : Dev nD) (f : Buf (Elt F) ((c : Thread nD τ).loc cc0_scratch4)) :
    (((c : Thread nD τ).loc cc0_scratch4) ↦{fullShare} f : sProp 𝕄) = iprop(sSlab c 0 f ∗ sSlab c 1 f ∗ sSlab c 2 f) := by
  rw [← bigSep3 (fun k => sSlab c k f)]
  unfold sSlab
  rw [← pointsTo_biUnion (ℓ := (c : Thread nD τ).loc cc0_scratch4) (Finset.univ : Finset (Fin 3)) (fun k => ((slabR k).set : Finset S3x128x512.Idx))
    (fun t _ t' _ h => slabs_disj t t' h)]
  exact congrArg (fun S : Finset S3x128x512.Idx => (((c : Thread nD τ).loc cc0_scratch4) ↦[S]{fullShare} f : sProp 𝕄)) slabs_univ
/-- The landing buffer is its three slots. -/
theorem r_slabs (c : Dev nD) (f : Buf (Elt F) ((c : Thread nD τ).loc cc0_scratch5)) :
    (((c : Thread nD τ).loc cc0_scratch5) ↦{fullShare} f : sProp 𝕄) = iprop(rSlab c 0 f ∗ rSlab c 1 f ∗ rSlab c 2 f) := by
  rw [← bigSep3 (fun k => rSlab c k f)]
  unfold rSlab
  rw [← pointsTo_biUnion (ℓ := (c : Thread nD τ).loc cc0_scratch5) (Finset.univ : Finset (Fin 3)) (fun k => ((slabR k).set : Finset S3x128x512.Idx))
    (fun t _ t' _ h => slabs_disj t t' h)]
  exact congrArg (fun S : Finset S3x128x512.Idx => (((c : Thread nD τ).loc cc0_scratch5) ↦[S]{fullShare} f : sProp 𝕄)) slabs_univ

/-- A slab is its two halves. -/
theorem s_halves (c : Dev nD) (k : Fin 3) (f : Buf (Elt F) ((c : Thread nD τ).loc cc0_scratch4)) :
    (sSlab c k f : sProp 𝕄) = iprop(sPt c k 0 f ∗ sPt c k 1 f) := by
  unfold sSlab sPt
  rw [sM_half_set, sM_half_set]
  refine (congrArg (fun S : Finset S3x128x512.Idx => (((c : Thread nD τ).loc cc0_scratch4) ↦[S]{fullShare} f : sProp 𝕄)) (slab_union k)).trans ?_
  have h := pointsTo_union (Ix := Unit) (Name := ℕ) (U := UU) (Lvl := ℕ) (Val := Elt F) (ℓ := (c : Thread nD τ).loc cc0_scratch4) (q := fullShare) (f := f) (slab_disj k)
  exact BI.equiv_iff.mp ⟨h.1, h.2⟩
theorem r_halves (c : Dev nD) (k : Fin 3) (f : Buf (Elt F) ((c : Thread nD τ).loc cc0_scratch5)) :
    (rSlab c k f : sProp 𝕄) = iprop(rPt c k 0 f ∗ rPt c k 1 f) := by
  unfold rSlab rPt
  rw [rM_half_set, rM_half_set]
  refine (congrArg (fun S : Finset S3x128x512.Idx => (((c : Thread nD τ).loc cc0_scratch5) ↦[S]{fullShare} f : sProp 𝕄)) (slab_union k)).trans ?_
  have h := pointsTo_union (Ix := Unit) (Name := ℕ) (U := UU) (Lvl := ℕ) (Val := Elt F) (ℓ := (c : Thread nD τ).loc cc0_scratch5) (q := fullShare) (f := f) (slab_disj k)
  exact BI.equiv_iff.mp ⟨h.1, h.2⟩

/-! ## The rows of the result -/

/-- Half rows of chunk `u`, both halves. -/
abbrev oChunk (c u : Dev nD) (f : Buf (Elt F) ((c : Thread nD τ).loc cc0_stg2_0)) : sProp 𝕄 :=
  iprop(oPt c u 0 fullShare f ∗ oPt c u 1 fullShare f)

theorem o_chunk (c u : Dev nD) (f : Buf (Elt F) ((c : Thread nD τ).loc cc0_stg2_0)) :
    (((c : Thread nD τ).loc cc0_stg2_0) ↦[((rowR u 0).set ∪ (rowR u 1).set : Finset S512x512.Idx)]{fullShare} f : sProp 𝕄) = oChunk c u f := by
  unfold oChunk oPt
  rw [rows_set, rows_set]
  have h := pointsTo_union (Ix := Unit) (Name := ℕ) (U := UU) (Lvl := ℕ) (Val := Elt F) (ℓ := (c : Thread nD τ).loc cc0_stg2_0) (q := fullShare) (f := f) (rows_disj u)
  exact BI.equiv_iff.mp ⟨h.1, h.2⟩

/-- A device's own chunk and its three peers' make up the four chunks. -/
theorem bigSep_peers (c : Dev nD) (Φ : Dev nD → sProp 𝕄) : bigSep Finset.univ Φ = iprop(Φ c ∗ Φ (q 0 c) ∗ Φ (q 1 c) ∗ Φ (q 2 c)) :=
  bigSep_univ_eq_bigSepL [c, q 0 c, q 1 c, q 2 c] (by revert c; decide) (by revert c; decide) Φ

/-- The result's staging buffer is the rows of the four chunks. -/
theorem o_chunks (c : Dev nD) (f : Buf (Elt F) ((c : Thread nD τ).loc cc0_stg2_0)) :
    (((c : Thread nD τ).loc cc0_stg2_0) ↦{fullShare} f : sProp 𝕄)
      = iprop(oChunk c c f ∗ oChunk c (q 0 c) f ∗ oChunk c (q 1 c) f ∗ oChunk c (q 2 c) f) := by
  rw [← bigSep_peers c (fun u => oChunk c u f)]
  rw [show (fun u => oChunk c u f) = fun u => (((c : Thread nD τ).loc cc0_stg2_0) ↦[((rowR u 0).set ∪ (rowR u 1).set : Finset S512x512.Idx)]{fullShare} f : sProp 𝕄)
    from funext fun u => (o_chunk c u f).symm]
  rw [← pointsTo_biUnion (ℓ := (c : Thread nD τ).loc cc0_stg2_0) (Finset.univ : Finset (Dev nD)) (fun u => ((rowR u 0).set ∪ (rowR u 1).set : Finset S512x512.Idx))
    (fun t _ t' _ h => chunks_disj t t' h)]
  exact congrArg (fun S : Finset S512x512.Idx => (((c : Thread nD τ).loc cc0_stg2_0) ↦[S]{fullShare} f : sProp 𝕄)) rows_univ

/-- A half of the device's own rows is three shares to lend and a remainder to keep. -/
theorem o_lend (c : Dev nD) (h : Fin 2) (f : Buf (Elt F) ((c : Thread nD τ).loc cc0_stg2_0)) :
    (oPt c c h fullShare f : sProp 𝕄)
      ⊢ iprop(oPt c c h (Transfers.shareDrop fullShare 3) f ∗ oPt c c h (lent 0) f ∗ oPt c c h (lent 1) f ∗ oPt c c h (lent 2) f) := by
  refine (Transfers.pointsTo_toks_split fullShare 3).trans ?_
  rw [bigSep3]
  exact BI.Entails.refl _
theorem o_unlend (c : Dev nD) (h : Fin 2) (f : Buf (Elt F) ((c : Thread nD τ).loc cc0_stg2_0)) :
    iprop(oPt c c h (Transfers.shareDrop fullShare 3) f ∗ oPt c c h (lent 0) f ∗ oPt c c h (lent 1) f ∗ oPt c c h (lent 2) f)
      ⊢ (oPt c c h fullShare f : sProp 𝕄) := by
  have e := Transfers.pointsTo_toks_join (Ix := Unit) (Name := ℕ) (U := UU) (Lvl := ℕ) (Val := Elt F) (ℓ := (rows c h).view.loc (c : Thread nD τ)) (S := (rows c h).view.set) (f := f) fullShare 3
  rw [bigSep3] at e
  exact e

/-! ## Where the views send their indices -/

theorem half_emb (M : Memref sig .tc .vmem S3x128x512 .bf16) (k : Fin 3) (h : Fin 2) (x : S64x512.Idx) :
    (half M k h).view.emb x = M.view.emb ((halfR k h).emb (Fin.cons ⟨0, Nat.one_pos⟩ x)) := by
  show M.view.emb ((halfR k h).emb (Shape.reshapeEquiv _ x)) = _
  exact congrArg (fun y => M.view.emb ((halfR k h).emb y)) (Shape.reshapeEquiv_cons_one _ x)

/-- Element `x` of half `h` of slab `k`, in the buffer. -/
def at3 (k : Fin 3) (h : Fin 2) (x : S64x512.Idx) : S3x128x512.Idx := (halfR k h).emb (Fin.cons ⟨0, Nat.one_pos⟩ x)
theorem at3_0 (k : Fin 3) (h : Fin 2) (x : S64x512.Idx) : at3 k h x 0 = k := Fin.ext (by
  unfold at3; rw [Rect.emb_apply]; show k.val + 1 * 0 = _; omega)
theorem at3_1 (k : Fin 3) (h : Fin 2) (x : S64x512.Idx) : (at3 k h x 1).val = 64 * h.val + (x 0).val := by
  unfold at3; rw [Rect.emb_apply]; show 64 * h.val + 1 * (x 0).val = _; omega
theorem at3_2 (k : Fin 3) (h : Fin 2) (x : S64x512.Idx) : (at3 k h x 2).val = (x 1).val := by
  unfold at3; rw [Rect.emb_apply]; show 0 + 1 * (x 1).val = _; omega

/-- What arrives in a landing slot is what the sender's slab holds. -/
theorem landed_eq (c : Dev nD) (k : Fin 3) (h : Fin 2) (x : S64x512.Idx) :
    (recvB m (q k c) : S3x128x512.Idx → Elt F .bf16) (at3 (rev k) h x) = (sendB m c : S3x128x512.Idx → Elt F .bf16) (at3 k h x) := by
  unfold recvB sendB
  rw [at3_0, at3_0, q_rev, rev_rev]
  congr 1

/-- The landing of a reduce-scatter transfer. -/
theorem r_landed (c : Dev nD) (k : Fin 3) (h : Fin 2) (fd : Buf (Elt F) (((q k c : Dev nD) : Thread nD τ).loc cc0_scratch5)) :
    (((half rM (rev k) h).view.loc ((q k c : Dev nD) : Thread nD τ)) ↦[(half rM (rev k) h).view.set]{fullShare}
        ((half rM (rev k) h).view.write (Elt F) fd ((half sM k h).view.read (Elt F) (sendB m c)) Finset.univ) : sProp 𝕄)
      = rPt (q k c) (rev k) h (recvB m (q k c)) := by
  unfold rPt
  refine pointsTo_congr fun i hi => ?_
  obtain ⟨x, -, rfl⟩ := Finset.mem_map.mp hi
  rw [View.write_emb_of_mem _ _ (Finset.mem_univ x)]
  rw [View.read_apply, half_emb, half_emb]
  exact (landed_eq m c k h x).symm

/-- The landing of an all-gather transfer: the same rows of the same result. -/
theorem o_landed (c d : Dev nD) (h : Fin 2) (fd : Buf (Elt F) ((d : Thread nD τ).loc cc0_stg2_0)) :
    (((rows c h).view.loc (d : Thread nD τ)) ↦[(rows c h).view.set]{fullShare}
        ((rows c h).view.write (Elt F) fd ((rows c h).view.read (Elt F) (outB m c)) Finset.univ) : sProp 𝕄)
      = oPt d c h fullShare (outB m d) := by
  unfold oPt
  refine pointsTo_congr fun i hi => ?_
  obtain ⟨x, -, rfl⟩ := Finset.mem_map.mp hi
  rw [View.write_emb_of_mem _ _ (Finset.mem_univ x)]
  rw [View.read_apply]
  rfl

/-- A slab stored is the slab of the send buffer's contents. -/
theorem s_stored (c : Dev nD) (k : Fin 3) (f : Buf (Elt F) ((c : Thread nD τ).loc cc0_scratch4)) :
    (((c : Thread nD τ).loc cc0_scratch4) ↦[((slabR k).set : Finset S3x128x512.Idx)]{fullShare}
        (((sM : Memref sig .tc .vmem S3x128x512 .bf16).access (slabR k)).write (Elt F) f (part m c k) Finset.univ) : sProp 𝕄)
      = sSlab c k (sendB m c) := by
  unfold sSlab
  refine pointsTo_congr fun i hi => ?_
  rw [← Rect.map_emb_univ] at hi
  obtain ⟨x, -, rfl⟩ := Finset.mem_map.mp hi
  have e : (slabR k).emb x = ((sM : Memref sig .tc .vmem S3x128x512 .bf16).access (slabR k)).emb x := rfl
  rw [e, View.write_emb_of_mem _ _ (Finset.mem_univ x), ← e]
  have h0 : (slabR k).emb x 0 = k := Fin.ext (by
    rw [Rect.emb_apply]; show k.val + 1 * (x 0).val = _
    have := (x 0).isLt; change (x 0).val < 1 at this; omega)
  show part m c k x = part m c ((slabR k).emb x 0) _
  rw [h0]
  congr 1
  funext a
  match a with
  | 0 => exact Subsingleton.elim (α := Fin 1) _ _
  | 1 => exact Fin.ext (by
      show (x 1).val = ((slabR k).emb x 1).val
      rw [Rect.emb_apply]; show _ = 0 + 1 * (x 1).val; omega)
  | 2 => exact Fin.ext (by
      show (x 2).val = ((slabR k).emb x 2).val
      rw [Rect.emb_apply]; show _ = 0 + 1 * (x 2).val; omega)

/-- The device's own rows stored are rows of the result. -/
theorem o_stored (c : Dev nD) (h : Fin 2) (off : Fin 2 → ℕ) (hoff : off = ![128 * c.val + 64 * h.val, 0])
    (inb : ∀ a, off a + S64x512.size a ≤ S512x512.size a) (f : Buf (Elt F) ((c : Thread nD τ).loc cc0_stg2_0)) :
    (((rows c h).view.loc (c : Thread nD τ)) ↦[(rows c h).view.set]{fullShare}
        (((oM : Memref sig .tc .vmem S512x512 .bf16).access (Rect.unit (s := S512x512) off S64x512.size inb)).write (Elt F) f (red m c h) Finset.univ) : sProp 𝕄)
      = oPt c c h fullShare (outB m c) := by
  subst hoff
  unfold oPt
  refine pointsTo_congr fun i hi => ?_
  obtain ⟨x, -, rfl⟩ := Finset.mem_map.mp hi
  have e : (rows c h).view.emb x = ((oM : Memref sig .tc .vmem S512x512 .bf16).access (rowR c h)).emb x := rfl
  rw [e, View.write_emb_of_mem _ _ (Finset.mem_univ x), ← e]
  have hx := (x 0).isLt; change (x 0).val < 64 at hx
  have hh := h.isLt
  have h0 : ((rows c h).view.emb x 0).val = 128 * c.val + 64 * h.val + (x 0).val := by
    show ((rowR c h).emb x 0).val = _
    rw [Rect.emb_apply]; show 128 * c.val + 64 * h.val + 1 * (x 0).val = _; omega
  have h1 : ((rows c h).view.emb x 1).val = (x 1).val := by
    show ((rowR c h).emb x 1).val = _
    rw [Rect.emb_apply]; show 0 + 1 * (x 1).val = _; omega
  unfold outB
  have hc : (⟨((rows c h).view.emb x 0).val / 128, chunk_lt _⟩ : Dev nD) = c := Fin.ext (by show _ / 128 = _; rw [h0]; omega)
  have hl : (⟨((rows c h).view.emb x 0).val / 64 % 2, Nat.mod_lt _ (by decide)⟩ : Fin 2) = h := Fin.ext (by show _ / 64 % 2 = _; rw [h0]; omega)
  show red m c h x = red m ⟨((rows c h).view.emb x 0).val / 128, chunk_lt _⟩ ⟨((rows c h).view.emb x 0).val / 64 % 2, Nat.mod_lt _ (by decide)⟩ _
  rw [hc, hl]
  congr 1
  funext a
  match a with
  | 0 => exact Fin.ext (by show (x 0).val = ((rows c h).view.emb x 0).val % 64; rw [h0]; omega)
  | 1 => exact Fin.ext h1.symm

end Cert.Moe

end
-- ==== Proof.Steps.lean ====
/-
# The expert layer on four devices: one step at a time

Each operation on a semaphore as one rule, over the records of every cell: a wait takes the round of its cell and closes the
cell; a signal and a transfer pay the next due.
-/
module

public import proofs.«01_k».proof.Proof.Pieces

@[expose] public section

set_option maxRecDepth 16384

noncomputable section

namespace Cert.Moe

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Every cell of every device -/

/-- The cells of one device: the barrier, then the kernel's own DMA semaphores. -/
def csem (i : Fin 27) : SemLoc sig :=
  if h : i.val = 0 then .reg barS else .dma ⟨i.val + 2, by have := i.isLt; show _ < 29; omega⟩
abbrev kcell (ck : Dev nD × Fin 27) : GSem nD τ sig := ((ck.1 : Thread nD τ), csem ck.2)
/-- The place of a DMA semaphore among them. -/
def ix (p : DmaSem sig) : Fin 27 := ⟨p.val - 2, by have : p.val < 29 := p.isLt; omega⟩
theorem csem_ix (p : DmaSem sig) (hp : 3 ≤ p.val) : csem (ix p) = .dma p := by
  have e : ¬ p.val - 2 = 0 := by omega
  have f : p.val - 2 + 2 = p.val := by omega
  unfold csem ix
  rw [dif_neg e]
  congr 1
  exact Fin.ext f

/-- What every device knows: each cell's invariant, that its round is open, and the levels. -/
def recs (K : Dev nD × Fin 27 → ℕ) : sProp 𝕄 :=
  iprop((bigSep Finset.univ fun ck : Dev nD × Fin 27 => cellInv ER (rd m) (K ck) (kcell ck))
    ∗ (bigSep Finset.univ fun ck : Dev nD × Fin 27 => reached ER (kcell ck) 0) ∗ levAts L lv)
instance recs_persistent (K : Dev nD × Fin 27 → ℕ) : BI.Persistent (recs m K) := by unfold recs; infer_instance

section Steps
variable (K : Dev nD × Fin 27 → ℕ)

theorem recs_lev : recs m K ⊢ levAts L lv := by
  unfold recs; iintro ⟨-, -, H⟩; iexact H
theorem inv_at (ck : Dev nD × Fin 27) :
    (bigSep Finset.univ fun ck : Dev nD × Fin 27 => (cellInv ER (rd m) (K ck) (kcell ck) : sProp 𝕄)) ⊢ cellInv ER (rd m) (K ck) (kcell ck) :=
  bigSep_elim (Finset.mem_univ ck)
theorem reached_at (ck : Dev nD × Fin 27) :
    (bigSep Finset.univ fun ck : Dev nD × Fin 27 => (reached ER (kcell ck) 0 : sProp 𝕄)) ⊢ reached ER (kcell ck) 0 :=
  bigSep_elim (Finset.mem_univ ck)
theorem recs_dma (c : Dev nD) (p : DmaSem sig) (hp : 3 ≤ p.val) :
    recs m K ⊢ iprop(cellInv ER (rd m) (K (c, ix p)) (dmaC c p) ∗ reached ER (dmaC c p) 0) := by
  have e : kcell (c, ix p) = dmaC c p := Prod.ext rfl (csem_ix p hp)
  unfold recs
  iintro ⟨#H, #Hr, -⟩
  rw [← e]
  isplitr
  · iapply (inv_at m K (c, ix p)); iexact H
  · iapply (reached_at (F := F) (c, ix p)); iexact Hr
theorem recs_bar (c : Dev nD) :
    recs m K ⊢ iprop(cellInv ER (rd m) (K (c, 0)) (barC c) ∗ reached ER (barC c) 0) := by
  unfold recs
  iintro ⟨#H, #Hr, -⟩
  isplitr
  · iapply (inv_at m K (c, 0)); iexact H
  · iapply (reached_at (F := F) (c, 0)); iexact Hr

/-- What device `c` still owes after `n` dues, whatever it has waited on. -/
def ow (c : Dev nD) (n : ℕ) : sProp 𝕄 := iprop(∃ W, owes (c : Thread nD τ) (owed c n) W)
/-- The right to wait on a cell, and the right to pay its round. -/
abbrev wtk (c : Dev nD) (p : DmaSem sig) : sProp 𝕄 := atPos ER (dmaC c p) 0 ∅ 0
abbrev ptk (c : Dev nD) (p : DmaSem sig) : sProp 𝕄 := dutyTok ER (dmaC c p) 0 (0 : Fin 3)
abbrev crd (c : Dev nD) (p : DmaSem sig) : sProp 𝕄 := cred (tallyAt (dmaC c p) () (dmaAmt p.val))
abbrev shut (c : Dev nD) (p : DmaSem sig) : sProp 𝕄 := semVal (dmaC c p) 0

/-- A wait on one of the kernel's DMA cells: what its round hands over, and the cell closed at zero. -/
theorem wp_wait_dma (c : Dev nD) (p : DmaSem sig) (hp : 3 ≤ p.val) (n : ℕ) (hw : (levAts L lv : sProp 𝕄) ⊢ MayWait (c : Thread nD τ) (.dma p) () (owed c n))
    {sp sp' : Space} {s s' : Shape} {e e' : EltTy} {src : Memref sig .tc sp' s' e'} {dst : Memref sig .tc sp s e}
    {hsrc : src.view.WordExact} {hdst : dst.view.WordExact} (hk : dst.view.dmaCredit = dmaAmt p.val)
    {α : Type} {Q : α → sProp 𝕄} {k : PUnit → Prog (TpuEff nD τ sig (Elt F) Λ₀ .tc) α} :
    iprop(recs m K ∗ wtk c p ∗ crd c p ∗ ow c n)
      ⊢ iprop(((dmaPay m c p.val ∗ shut c p ∗ ow c n) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 p src dst hsrc hdst) k) Q) := by
  unfold ow
  iintro ⟨#HR, Hat, Hc, ⟨%W, HO⟩⟩ Hk
  ihave #Hd := (recs_dma m K c p hp) $$ HR
  icases Hd with ⟨#HI, #Hr⟩
  iapply (Rounds.wp_wait_rest_token 𝒱₀ ER (rd m) (c : Thread nD τ) none (κ := K (c, ix p))
      (wpE_waitDma2_eq 𝒱₀ (c : Thread nD τ) none Set.univ) (Set.mem_univ _) () (O := owed c n) (W := W) (R := 0) (m := 0) (T := ∅)
      (by rw [Nat.zero_add, expect_dma m c p hp, hk])) $$ [Hc HO Hat]
  · isplitr; · iexact HI
    isplitl [Hc]; · rw [hk]; iexact Hc
    isplitl [HO]; · iexact HO
    isplitr; · iapply hw; iapply (recs_lev m K); iexact HR
    iexact Hat
  iintro ⟨HO, Hat, -, Hpay⟩
  ihave Hp := (Entails.of_eq (rest_dma m c p hp)) $$ Hpay
  imod (Rounds.cell_close ER (rd m) (Set.mem_univ (K (c, ix p))) (fun h => h) (R := 0 + 1) (duties_later m (dmaC c p))) $$ [Hat] with Hz
  · isplitr; · iexact HI
    iexact Hat
  iapply Hk
  isplitl [Hp]; · iexact Hp
  isplitl [Hz]; · iexact Hz
  iexists _; iexact HO

/-- The wait on the barrier: what every peer hands over. -/
theorem wp_wait_bar (c : Dev nD) {α : Type} {Q : α → sProp 𝕄} {k : PUnit → Prog (TpuEff nD τ sig (Elt F) Λ₀ .tc) α} :
    iprop(recs m K ∗ atPos ER (barC c) 0 ∅ 0 ∗ cred (tallyAt (barC c) () 3) ∗ ow c 3)
      ⊢ iprop(((barPay c 0 ∗ barPay c 1 ∗ barPay c 2 ∗ semVal (barC c) 0 ∗ ow c 3) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32 : BitVec 32).toInt) k) Q) := by
  unfold ow
  iintro ⟨#HR, Hat, Hc, ⟨%W, HO⟩⟩ Hk
  ihave #Hd := (recs_bar m K c) $$ HR
  icases Hd with ⟨#HI, #Hr⟩
  iapply (Rounds.wp_wait_rest_token 𝒱₀ ER (rd m) (c : Thread nD τ) none (κ := K (c, 0))
      (wpE_semWait_eq 𝒱₀ (c : Thread nD τ) none Set.univ) (Set.mem_univ _) () (O := owed c 3) (W := W) (R := 0) (m := 0) (T := ∅)
      (by rw [expect_bar]; decide)) $$ [Hc HO Hat]
  · isplitr; · iexact HI
    isplitl [Hc]; · iexact Hc
    isplitl [HO]; · iexact HO
    isplitr; · iapply (mayWait_owed (F := F) c (.reg barS) 3 (by decide)); iapply (recs_lev m K); iexact HR
    iexact Hat
  iintro ⟨HO, Hat, -, Hpay⟩
  ihave Hp := (Entails.of_eq ((rest_bar m c).trans (bigSep3 _))) $$ Hpay
  icases Hp with ⟨H0, H1, H2⟩
  imod (Rounds.cell_close ER (rd m) (Set.mem_univ (K (c, 0))) (fun h => h) (R := 0 + 1) (duties_later m (barC c))) $$ [Hat] with Hz
  · isplitr; · iexact HI
    iexact Hat
  iapply Hk
  isplitl [H0]; · iexact H0
  isplitl [H1]; · iexact H1
  isplitl [H2]; · iexact H2
  isplitl [Hz]; · iexact Hz
  iexists _; iexact HO

/-- The barrier signal to peer `j`, which hands over this device's landing slot `j` and the rows of its result staging
    that peer `j` will fill. -/
theorem wp_sig (c d : Dev nD) (j : Fin 3) (hd : d = q j c) (n : ℕ) (hO : owed c n = owed c (n + 1) + tallyAt (barC (q j c)) () 1)
    {α : Type} {Q : α → sProp 𝕄} {k : PUnit → Prog (TpuEff nD τ sig (Elt F) Λ₀ .tc) α}
    (fr : Buf (Elt F) ((c : Thread nD τ).loc cc0_scratch5)) (fo : Buf (Elt F) ((c : Thread nD τ).loc cc0_stg2_0)) :
    iprop(recs m K ∗ rSlab c j fr ∗ oChunk c (q j c) fo ∗ dutyTok ER (barC (q j c)) 0 (rev j) ∗ ow c n)
      ⊢ iprop((ow c (n + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc d : Thread nD τ) barS (1#32 : BitVec 32).toInt) k) Q) := by
  subst hd
  unfold ow
  iintro ⟨#HR, Hr, ⟨Ho0, Ho1⟩, Htok, ⟨%W, HO⟩⟩ Hk
  ihave #Hd := (recs_bar m K (q j c)) $$ HR
  icases Hd with ⟨#HI, #Hrc⟩
  ihave Hr := (Entails.of_eq (r_halves c j fr)) $$ Hr
  icases Hr with ⟨Hr0, Hr1⟩
  iapply (Rounds.wp_signal 𝒱₀ ER (rd m) (c : Thread nD τ) none (dst := ((q j c : Dev nD) : Thread nD τ)) (κ := K (q j c, 0)) (d := rev j)
      (by rw [duties_bar]; exact Finset.mem_univ _) ((amount_bar m (q j c) (rev j)).trans (by decide)) () (owed c (n + 1)) hO)
    $$ [HO Htok Hr0 Hr1 Ho0 Ho1]
  · isplitr; · iexact HI
    isplitl [HO]; · iexact HO
    isplitl [Htok]; · iexact Htok
    isplitl
    · rw [payload_bar]; unfold barPay; rw [q_rev, rev_rev]
      isplitl [Hr0]; · iexists _; iexact Hr0
      isplitl [Hr1]; · iexists _; iexact Hr1
      isplitl [Ho0]; · iexists _; iexact Ho0
      iexists _; iexact Ho1
    · iexact Hrc
  iintro HO
  iapply Hk
  iexists _; iexact HO

theorem credit_half (k : Fin 3) (h : Fin 2) : (half rM k h).view.dmaCredit = N := by fin_cases k <;> fin_cases h <;> rfl
theorem credit_rows (u : Dev nD) (h : Fin 2) : (rows u h).view.dmaCredit = N := by revert u h; decide

/-- The transfer of half `h` of slab `k` to peer `k`. -/
theorem wp_rs (c d : Dev nD) (k : Fin 3) (h : Fin 2) (hd : d = q k c) (n : ℕ) (hO : owed c n = owed c (n + 1) + tallyAt (dmaC (q k c) (rsR (rev k) h)) () N)
    {hsc : (half rM (rev k) h : Memref sig (Dev.tc d : Thread nD τ).2.kind .vmem S64x512 .bf16).view.ref.isScScratch = false}
    {hsrc : (half sM k h).view.WordExact} {hdst : (half rM (rev k) h).view.WordExact}
    {hsem : DmaTarget.Typed .vmem (.dma (rsR (rev k) h)) (.remote (Dev.tc d : Thread nD τ) (half rM (rev k) h : Memref sig .tc .vmem S64x512 .bf16) (.dma (rsS k h)) hsc)}
    {α : Type} {Q : α → sProp 𝕄} {kt : PUnit → Prog (TpuEff nD τ sig (Elt F) Λ₀ .tc) α} :
    iprop(recs m K ∗ sPt c k h (sendB m c) ∗ (∃ f, rPt (q k c) (rev k) h f) ∗ ptk c (rsS k h) ∗ ptk (q k c) (rsR (rev k) h) ∗ ow c n)
      ⊢ iprop(((crd c (rsS k h) ∗ ow c (n + 1)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (half sM k h) (.remote (Dev.tc d : Thread nD τ) (half rM (rev k) h) (.dma (rsS k h)) hsc) (.dma (rsR (rev k) h)) hsrc hdst hsem) kt) Q) := by
  subst hd
  unfold ow
  iintro ⟨#HR, Hs, ⟨%f, Hr⟩, Ht1, Ht2, ⟨%W, HO⟩⟩ Hk
  have h1 : 3 ≤ (rsS k h).val := by show 3 ≤ 5 + _; omega
  have h2 : 3 ≤ (rsR (rev k) h).val := by show 3 ≤ 11 + _; omega
  ihave #Hd1 := (recs_dma m K c (rsS k h) h1) $$ HR
  icases Hd1 with ⟨#HI1, #Hr1⟩
  ihave #Hd2 := (recs_dma m K (q k c) (rsR (rev k) h) h2) $$ HR
  icases Hd2 with ⟨#HI2, #Hr2⟩
  iapply (Rounds.wp_send_pointsTo 𝒱₀ ER (rd m) (c : Thread nD τ) none (κ₁ := K (c, ix (rsS k h))) (κ₂ := K (q k c, ix (rsR (rev k) h)))
    (c' := ((q k c : Dev nD) : Thread nD τ)) (sS := .dma (rsS k h)) (sem := .dma (rsR (rev k) h)) (src := half sM k h) (dst := (half rM (rev k) h : Memref sig .tc .vmem S64x512 .bf16)) (r₁ := 0) (r₂ := 0) (d₁ := 0) (d₂ := 0) (fs := sendB m c) (fd := f) (q := fullShare)
    (by rw [duties_dma m _ _ h1]; exact Finset.mem_singleton_self _) (by rw [duties_dma m _ _ h2]; exact Finset.mem_singleton_self _)
    () () N (credit_half (rev k) h) ((amount_dma m c _ _).trans (amt_rsS k h)) ((amount_dma m (q k c) _ _).trans (amt_rsR (rev k) h)) (owed c (n + 1)) hO (W := W)
    (by rw [payload_dma, pay_rsS]; exact BI.Entails.refl _)
    (by rw [payload_dma, pay_rsR, r_landed])) $$ [Hs Hr Ht1 Ht2 HO]
  · isplitr; · iexact HI1
    isplitr; · iexact HI2
    isplitl [Hs]; · unfold sPt; iexact Hs
    isplitl [Hr]; · unfold rPt; iexact Hr
    isplitl [HO]; · iexact HO
    isplitl [Ht1]; · iexact Ht1
    isplitr; · iexact Hr1
    isplitl [Ht2]; · iexact Ht2
    iexact Hr2
  iintro ⟨Hc, HO⟩
  iapply Hk
  isplitl [Hc]; · unfold crd; rw [amt_rsS]; iexact Hc
  iexists _; iexact HO

/-- The transfer of half `h` of the device's own rows of the result to peer `k`. -/
theorem wp_ag (c d : Dev nD) (k : Fin 3) (h : Fin 2) (hd : d = q k c) (n : ℕ) (hO : owed c n = owed c (n + 1) + tallyAt (dmaC (q k c) (agR (rev k) h)) () N)
    (M : Memref sig .tc .vmem S64x512 .bf16) (hM : M = rows c h)
    {hsc : (M : Memref sig (Dev.tc d : Thread nD τ).2.kind .vmem S64x512 .bf16).view.ref.isScScratch = false}
    {hsrc : M.view.WordExact} {hdst : M.view.WordExact}
    {hsem : DmaTarget.Typed .vmem (.dma (agR (rev k) h)) (.remote (Dev.tc d : Thread nD τ) (M : Memref sig .tc .vmem S64x512 .bf16) (.dma (agS k h)) hsc)}
    {α : Type} {Q : α → sProp 𝕄} {kt : PUnit → Prog (TpuEff nD τ sig (Elt F) Λ₀ .tc) α} :
    iprop(recs m K ∗ oPt c c h (lent k) (outB m c) ∗ (∃ f, oPt (q k c) c h fullShare f) ∗ ptk c (agS k h) ∗ ptk (q k c) (agR (rev k) h) ∗ ow c n)
      ⊢ iprop(((crd c (agS k h) ∗ ow c (n + 1)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma M (.remote (Dev.tc d : Thread nD τ) M (.dma (agS k h)) hsc) (.dma (agR (rev k) h)) hsrc hdst hsem) kt) Q) := by
  subst hd hM
  unfold ow
  iintro ⟨#HR, Hs, ⟨%f, Hr⟩, Ht1, Ht2, ⟨%W, HO⟩⟩ Hk
  have h1 : 3 ≤ (agS k h).val := by show 3 ≤ 17 + _; omega
  have h2 : 3 ≤ (agR (rev k) h).val := by show 3 ≤ 23 + _; omega
  ihave #Hd1 := (recs_dma m K c (agS k h) h1) $$ HR
  icases Hd1 with ⟨#HI1, #Hr1⟩
  ihave #Hd2 := (recs_dma m K (q k c) (agR (rev k) h) h2) $$ HR
  icases Hd2 with ⟨#HI2, #Hr2⟩
  iapply (Rounds.wp_send_pointsTo 𝒱₀ ER (rd m) (c : Thread nD τ) none (κ₁ := K (c, ix (agS k h))) (κ₂ := K (q k c, ix (agR (rev k) h)))
    (c' := ((q k c : Dev nD) : Thread nD τ)) (sS := .dma (agS k h)) (sem := .dma (agR (rev k) h)) (src := rows c h) (dst := (rows c h : Memref sig .tc .vmem S64x512 .bf16)) (r₁ := 0) (r₂ := 0) (d₁ := 0) (d₂ := 0) (fs := outB m c) (fd := f) (q := lent k)
    (by rw [duties_dma m _ _ h1]; exact Finset.mem_singleton_self _) (by rw [duties_dma m _ _ h2]; exact Finset.mem_singleton_self _)
    () () N (credit_rows c h) ((amount_dma m c _ _).trans (amt_agS k h)) ((amount_dma m (q k c) _ _).trans (amt_agR (rev k) h)) (owed c (n + 1)) hO (W := W)
    (by rw [payload_dma, pay_agS]; exact BI.Entails.refl _)
    (by rw [payload_dma, pay_agR, o_landed, q_rev])) $$ [Hs Hr Ht1 Ht2 HO]
  · isplitr; · iexact HI1
    isplitr; · iexact HI2
    isplitl [Hs]; · unfold oPt; iexact Hs
    isplitl [Hr]; · unfold oPt; iexact Hr
    isplitl [HO]; · iexact HO
    isplitl [Ht1]; · iexact Ht1
    isplitr; · iexact Hr1
    isplitl [Ht2]; · iexact Ht2
    iexact Hr2
  iintro ⟨Hc, HO⟩
  iapply Hk
  isplitl [Hc]; · unfold crd; rw [amt_agS]; iexact Hc
  iexists _; iexact HO

end Steps

end Cert.Moe

end
-- ==== Proof.Rules.lean ====
/-
# The expert layer on four devices: the rules the parts of the body use
-/
module

public import proofs.«01_k».proof.Proof.Steps

@[expose] public section

set_option maxRecDepth 16384

noncomputable section

namespace Cert.Moe

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A function of the body's operands, as the parts take them, and its value at this launch's operands. -/
abbrev Operands (β : Type 1) : Type 1 :=
  (arg0 : Memref sig .tc .hbm S512x256 .f32) → arg0.IsWhole → (arg1 : Memref sig .tc .vmem S256x16 .f32) → arg1.IsWhole
    → (arg2 : Memref sig .tc .vmem S512x2 .i32) → arg2.IsWhole → (arg3 : Memref sig .tc .hbm S4x256x512 .f32) → arg3.IsWhole
    → (arg4 : Memref sig .tc .vmem S512x512 .bf16) → arg4.IsWhole → (arg5 : Memref sig .tc .vmem S512x256 .f32) → arg5.IsWhole
    → (arg6 : Memref sig .tc .vmem S4x256x512 .f32) → arg6.IsWhole → (arg7 : Memref sig .tc .vmem S4x256x512 .bf16) → arg7.IsWhole
    → (arg8 : Memref sig .tc .vmem S512x4 .f32) → arg8.IsWhole → (arg9 : Memref sig .tc .vmem S3x128x512 .bf16) → arg9.IsWhole
    → (arg10 : Memref sig .tc .vmem S3x128x512 .bf16) → arg10.IsWhole
    → DmaSems sig S2 → DmaSems sig S6 → DmaSems sig S6 → DmaSems sig S6 → DmaSems sig S6 → β
abbrev app {β : Type 1} (f : Operands β) : β :=
  f aM (Memref.isWhole_whole _) pM (Memref.isWhole_whole _) iM (Memref.isWhole_whole _) gM (Memref.isWhole_whole _) oM (Memref.isWhole_whole _)
    xM (Memref.isWhole_whole _) eM (Memref.isWhole_whole _) bM (Memref.isWhole_whole _) wM (Memref.isWhole_whole _) sM (Memref.isWhole_whole _)
    rM (Memref.isWhole_whole _) cc0_scratch6 cc0_scratch7 cc0_scratch8 cc0_scratch9 cc0_scratch10

/-- The program run on the TensorCore of device `c`. -/
abbrev wpc {α : Type} (c : Dev nD) (P : Prog (TpuEff nD τ sig (Elt F) Λ₀ .tc) α) (Q : α → sProp 𝕄) : sProp 𝕄 :=
  wp frame (wpE (defs₀ (F := F)) 𝒱₀ (c : Thread nD τ) none) Set.univ P Q

/-- The tokens of a reduce-scatter transfer, and of an all-gather one. -/
abbrev rsTok (c : Dev nD) (k : Fin 3) (h : Fin 2) : sProp 𝕄 := iprop(ptk c (rsS k h) ∗ ptk (q k c) (rsR (rev k) h))
abbrev agTok (c : Dev nD) (k : Fin 3) (h : Fin 2) : sProp 𝕄 := iprop(ptk c (agS k h) ∗ ptk (q k c) (agR (rev k) h))
/-- A scratch buffer at its contents. -/
abbrev at0 (c : Dev nD) : sProp 𝕄 := ((c : Thread nD τ).loc cc0_scratch0) ↦{fullShare} xB m c
abbrev at1 (c : Dev nD) : sProp 𝕄 := ((c : Thread nD τ).loc cc0_scratch1) ↦{fullShare} gB m c
abbrev at2 (c : Dev nD) : sProp 𝕄 := ((c : Thread nD τ).loc cc0_scratch2) ↦{fullShare} bB m c
abbrev at3w (c : Dev nD) : sProp 𝕄 := ((c : Thread nD τ).loc cc0_scratch3) ↦{fullShare} wB m c

/-! What the loads of the chunks read. -/
theorem rd_x0 (c : Dev nD) : (xM : Memref sig .tc .vmem S512x256 .f32).view.readAt (Elt F) (Rect.unit (s := S512x256) (k0_off1 c 0#32) S128x256.size (k0_off1_inb c 0)).toLoadRect (xB m c) = xr m c 0 := rfl
theorem rd_x1 (c : Dev nD) : (xM : Memref sig .tc .vmem S512x256 .f32).view.readAt (Elt F) (Rect.unit (s := S512x256) (k0_off1 c 1#32) S128x256.size (k0_off1_inb c 1)).toLoadRect (xB m c) = xr m c 1 := rfl
theorem rd_x2 (c : Dev nD) : (xM : Memref sig .tc .vmem S512x256 .f32).view.readAt (Elt F) (Rect.unit (s := S512x256) (k0_off1 c 2#32) S128x256.size (k0_off1_inb c 2)).toLoadRect (xB m c) = xr m c 2 := rfl
theorem rd_w0 (c : Dev nD) : (wM : Memref sig .tc .vmem S512x4 .f32).view.readAt (Elt F) (Rect.unit (s := S512x4) (k0_off2 c 0#32) S128x4.size (k0_off2_inb c 0)).toLoadRect (wB m c) = wr m c 0 := rfl
theorem rd_w1 (c : Dev nD) : (wM : Memref sig .tc .vmem S512x4 .f32).view.readAt (Elt F) (Rect.unit (s := S512x4) (k0_off2 c 1#32) S128x4.size (k0_off2_inb c 1)).toLoadRect (wB m c) = wr m c 1 := rfl
theorem rd_w2 (c : Dev nD) : (wM : Memref sig .tc .vmem S512x4 .f32).view.readAt (Elt F) (Rect.unit (s := S512x4) (k0_off2 c 2#32) S128x4.size (k0_off2_inb c 2)).toLoadRect (wB m c) = wr m c 2 := rfl
theorem rd_x3 (c : Dev nD) : (xM : Memref sig .tc .vmem S512x256 .f32).view.readAt (Elt F) (Rect.unit (s := S512x256) (k0_off3 c) S128x256.size (k0_off3_inb c)).toLoadRect (xB m c) = xo m c := rfl
theorem rd_w3 (c : Dev nD) : (wM : Memref sig .tc .vmem S512x4 .f32).view.readAt (Elt F) (Rect.unit (s := S512x4) (k0_off4 c) S128x4.size (k0_off4_inb c)).toLoadRect (wB m c) = wo m c := rfl

section Parts
variable (K : Dev nD × Fin 27 → ℕ)

theorem credit_sHalf (k : Fin 3) (h : Fin 2) : (half sM k h).view.dmaCredit = N := by fin_cases k <;> fin_cases h <;> rfl

/-- The wait for peer `k`'s half `h`: the landing slot, filled. -/
theorem wp_wait_rsR (c : Dev nD) (k : Fin 3) (h : Fin 2) (n : ℕ) (hw : (levAts L lv : sProp 𝕄) ⊢ MayWait (c : Thread nD τ) (.dma (rsR k h)) () (owed c n))
    {sp' : Space} {s' : Shape} {e' : EltTy} {src : Memref sig .tc sp' s' e'} {hsrc : src.view.WordExact} {hdst : (half rM k h).view.WordExact}
    {α : Type} {Q : α → sProp 𝕄} {kt : PUnit → Prog (TpuEff nD τ sig (Elt F) Λ₀ .tc) α} :
    iprop(recs m K ∗ wtk c (rsR k h) ∗ crd c (rsR k h) ∗ ow c n)
      ⊢ iprop(((rPt c k h (recvB m c) ∗ shut c (rsR k h) ∗ ow c n) -∗ wpc c (kt ⟨⟩) Q)
          -∗ wpc c (.op (.waitDma2 (rsR k h) src (half rM k h) hsrc hdst) kt) Q) := by
  rw [← pay_rsR]
  exact wp_wait_dma m K c (rsR k h) (by show 3 ≤ 11 + _; omega) n hw ((credit_half k h).trans (amt_rsR k h).symm)

/-- The wait for the transfer of half `h` of slab `k` to have left: the slab's half back. -/
theorem wp_wait_rsS (c : Dev nD) (k : Fin 3) (h : Fin 2)
    {sp' : Space} {s' : Shape} {e' : EltTy} {src : Memref sig .tc sp' s' e'} {hsrc : src.view.WordExact} {hdst : (half sM k h).view.WordExact}
    {α : Type} {Q : α → sProp 𝕄} {kt : PUnit → Prog (TpuEff nD τ sig (Elt F) Λ₀ .tc) α} :
    iprop(recs m K ∗ wtk c (rsS k h) ∗ crd c (rsS k h) ∗ ow c 15)
      ⊢ iprop(((sPt c k h (sendB m c) ∗ shut c (rsS k h) ∗ ow c 15) -∗ wpc c (kt ⟨⟩) Q)
          -∗ wpc c (.op (.waitDma2 (rsS k h) src (half sM k h) hsrc hdst) kt) Q) := by
  rw [← pay_rsS]
  exact wp_wait_dma m K c (rsS k h) (by show 3 ≤ 5 + _; omega) 15 (mayWait_owed c _ 15 (by intro p hp; exact absurd hp List.not_mem_nil)) ((credit_sHalf k h).trans (amt_rsS k h).symm)

theorem credit_off (off : Fin 2 → ℕ) (inb : ∀ a, off a + S64x512.size a ≤ S512x512.size a) :
    (oM.slice (Rect.unit (s := S512x512) off S64x512.size inb) (fun _ => rfl) : Memref sig .tc .vmem S64x512 .bf16).view.dmaCredit = N := rfl

/-- The wait for peer `k`'s rows of the result: those rows, filled. -/
theorem wp_wait_agR (c : Dev nD) (k : Fin 3) (h : Fin 2) {off : Fin 2 → ℕ} {inb : ∀ a, off a + S64x512.size a ≤ S512x512.size a}
    {sp' : Space} {s' : Shape} {e' : EltTy} {src : Memref sig .tc sp' s' e'} {hsrc : src.view.WordExact}
    {hdst : (oM.slice (Rect.unit (s := S512x512) off S64x512.size inb) (fun _ => rfl) : Memref sig .tc .vmem S64x512 .bf16).view.WordExact}
    {α : Type} {Q : α → sProp 𝕄} {kt : PUnit → Prog (TpuEff nD τ sig (Elt F) Λ₀ .tc) α} :
    iprop(recs m K ∗ wtk c (agR k h) ∗ crd c (agR k h) ∗ ow c 15)
      ⊢ iprop(((oPt c (q k c) h fullShare (outB m c) ∗ shut c (agR k h) ∗ ow c 15) -∗ wpc c (kt ⟨⟩) Q)
          -∗ wpc c (.op (.waitDma2 (agR k h) src (oM.slice (Rect.unit (s := S512x512) off S64x512.size inb) (fun _ => rfl)) hsrc hdst) kt) Q) := by
  rw [← pay_agR]
  exact wp_wait_dma m K c (agR k h) (by show 3 ≤ 23 + _; omega) 15 (mayWait_owed c _ 15 (by intro p hp; exact absurd hp List.not_mem_nil)) ((credit_off off inb).trans (amt_agR k h).symm)

/-- The wait for the transfer of the device's own rows to peer `k` to have left: the lent share back. -/
theorem wp_wait_agS (c : Dev nD) (k : Fin 3) (h : Fin 2) {off : Fin 2 → ℕ} {inb : ∀ a, off a + S64x512.size a ≤ S512x512.size a}
    {sp' : Space} {s' : Shape} {e' : EltTy} {src : Memref sig .tc sp' s' e'} {hsrc : src.view.WordExact}
    {hdst : (oM.slice (Rect.unit (s := S512x512) off S64x512.size inb) (fun _ => rfl) : Memref sig .tc .vmem S64x512 .bf16).view.WordExact}
    {α : Type} {Q : α → sProp 𝕄} {kt : PUnit → Prog (TpuEff nD τ sig (Elt F) Λ₀ .tc) α} :
    iprop(recs m K ∗ wtk c (agS k h) ∗ crd c (agS k h) ∗ ow c 15)
      ⊢ iprop(((oPt c c h (lent k) (outB m c) ∗ shut c (agS k h) ∗ ow c 15) -∗ wpc c (kt ⟨⟩) Q)
          -∗ wpc c (.op (.waitDma2 (agS k h) src (oM.slice (Rect.unit (s := S512x512) off S64x512.size inb) (fun _ => rfl)) hsrc hdst) kt) Q) := by
  rw [← pay_agS]
  exact wp_wait_dma m K c (agS k h) (by show 3 ≤ 17 + _; omega) 15 (mayWait_owed c _ 15 (by intro p hp; exact absurd hp List.not_mem_nil)) ((credit_off off inb).trans (amt_agS k h).symm)

/-- A load of a filled half slot. -/
theorem wp_ld_slot (c : Dev nD) (k : Fin 3) (h : Fin 2) {hl : (rM : Memref sig .tc .vmem S3x128x512 .bf16).view.LoadsAt (halfR k h).toLoadRect}
    {α : Type} {Q : α → sProp 𝕄} {kt : Vec F S1x64x512 .bf16 → Prog (TpuEff nD τ sig (Elt F) Λ₀ .tc) α} :
    rPt c k h (recvB m c)
      ⊢ iprop((rPt c k h (recvB m c) -∗ wpc c (kt (slot m c k h)) Q)
          -∗ wpc c (.op (.load (rM : Memref sig .tc .vmem S3x128x512 .bf16) (halfR k h).toLoadRect hl) kt) Q) := by
  unfold rPt slot
  exact wp_load_rect 𝒱₀ (c : Thread nD τ) none Set.univ (m := (rM : Memref sig .tc .vmem S3x128x512 .bf16)) (r := halfR k h) (by rw [half_set])

/-- A load of the slab, whose value nobody reads. -/
theorem wp_ld_slab (c : Dev nD) (k : Fin 3) {hl : (sM : Memref sig .tc .vmem S3x128x512 .bf16).view.LoadsAt (slabR k).toLoadRect}
    (f : Buf (Elt F) ((c : Thread nD τ).loc cc0_scratch4))
    {α : Type} {Q : α → sProp 𝕄} {kt : Vec F S1x128x512 .bf16 → Prog (TpuEff nD τ sig (Elt F) Λ₀ .tc) α} :
    sSlab c k f
      ⊢ iprop((sSlab c k f -∗ wpc c (kt (((sM : Memref sig .tc .vmem S3x128x512 .bf16).access (slabR k)).read (Elt F) f)) Q)
          -∗ wpc c (.op (.load (sM : Memref sig .tc .vmem S3x128x512 .bf16) (slabR k).toLoadRect hl) kt) Q) := by
  unfold sSlab
  exact wp_load_rect 𝒱₀ (c : Thread nD τ) none Set.univ (m := (sM : Memref sig .tc .vmem S3x128x512 .bf16)) (r := slabR k) (S := (slabR k).set)
    (View.set_slice_whole _ _).subset

/-- The store of the partial product for peer `k`. -/
theorem wp_st_slab (c : Dev nD) (k : Fin 3) (f : Buf (Elt F) ((c : Thread nD τ).loc cc0_scratch4)) {hx : ((sM : Memref sig .tc .vmem S3x128x512 .bf16).access (slabR k)).Stores Finset.univ}
    {hm : (Finset.univ : Finset (slabR k).shape.Idx) = Finset.univ ∨ ∀ a, (slabR k).stride a = 1}
    {α : Type} {Q : α → sProp 𝕄} {kt : PUnit → Prog (TpuEff nD τ sig (Elt F) Λ₀ .tc) α} :
    sSlab c k f
      ⊢ iprop((sSlab c k (sendB m c) -∗ wpc c (kt ⟨⟩) Q)
          -∗ wpc c (.op (.store (sM : Memref sig .tc .vmem S3x128x512 .bf16) (slabR k) (part m c k) Finset.univ hx hm) kt) Q) := by
  rw [← s_stored m c k f]
  unfold sSlab
  exact wp_store 𝒱₀ (c : Thread nD τ) none Set.univ (m := (sM : Memref sig .tc .vmem S3x128x512 .bf16)) (r := slabR k) (Mk := Finset.univ) (S := (slabR k).set)
    (View.set_slice_whole _ _).subset

theorem in0_landed (c : Dev nD) (f : Buf (Elt F) ((c : Thread nD τ).loc cc0_scratch0)) :
    iprop(((xM : Memref sig .tc .vmem S512x256 .f32).view.loc (c : Thread nD τ) ↦[(xM : Memref sig .tc .vmem S512x256 .f32).view.set]{fullShare}
        ((xM : Memref sig .tc .vmem S512x256 .f32).view.write (Elt F) f ((aM : Memref sig .tc .hbm S512x256 .f32).view.read (Elt F) (m ((c : Thread nD τ).loc main_arg0))) Finset.univ))
      ∗ ((aM : Memref sig .tc .hbm S512x256 .f32).view.loc (c : Thread nD τ) ↦[(aM : Memref sig .tc .hbm S512x256 .f32).view.set]{fullShare} m ((c : Thread nD τ).loc main_arg0)))
      ⊢ (in0Pay m c : sProp 𝕄) := by
  have e1 : (xM : Memref sig .tc .vmem S512x256 .f32).view.set = Finset.univ := View.set_whole _
  have e2 : (aM : Memref sig .tc .hbm S512x256 .f32).view.set = Finset.univ := View.set_whole _
  have e3 : (xM : Memref sig .tc .vmem S512x256 .f32).view.write (Elt F) f ((aM : Memref sig .tc .hbm S512x256 .f32).view.read (Elt F) (m ((c : Thread nD τ).loc main_arg0))) Finset.univ
      = xB m c := View.write_whole_univ _ _ _
  rw [e1, e2, e3]
  exact BI.Entails.refl _

/-- The copy of the activations into the device's own memory. -/
theorem wp_in0 (c : Dev nD) {hsrc : (aM : Memref sig .tc .hbm S512x256 .f32).view.WordExact} {hdst : (xM : Memref sig .tc .vmem S512x256 .f32).view.WordExact}
    {hsem : DmaTarget.Typed .hbm (.dma (inS 0)) (.here xM : DmaTarget nD τ sig (c : Thread nD τ).2 .vmem S512x256 .f32)}
    {α : Type} {Q : α → sProp 𝕄} {kt : PUnit → Prog (TpuEff nD τ sig (Elt F) Λ₀ .tc) α} :
    iprop(recs m K ∗ (((c : Thread nD τ).loc main_arg0) ↦{fullShare} m ((c : Thread nD τ).loc main_arg0)) ∗ (∃ f, ((c : Thread nD τ).loc cc0_scratch0) ↦{fullShare} f) ∗ ptk c (inS 0))
      ⊢ iprop((crd c (inS 0) -∗ wpc c (kt ⟨⟩) Q)
          -∗ wpc c (.op (.enqueueDma (aM : Memref sig .tc .hbm S512x256 .f32) (.here (xM : Memref sig .tc .vmem S512x256 .f32)) (.dma (inS 0)) hsrc hdst hsem) kt) Q) := by
  have e1 : (xM : Memref sig .tc .vmem S512x256 .f32).view.set = Finset.univ := View.set_whole _
  have e2 : (aM : Memref sig .tc .hbm S512x256 .f32).view.set = Finset.univ := View.set_whole _
  iintro ⟨#HR, Ha, ⟨%f, Hx⟩, Ht⟩ Hk
  ihave #Hd := (recs_dma m K c (inS 0) (by decide)) $$ HR
  icases Hd with ⟨#HI, #Hr⟩
  iapply (Rounds.wp_copy_pointsTo 𝒱₀ ER (rd m) (c : Thread nD τ) none (κ := K (c, ix (inS 0))) (src := (aM : Memref sig .tc .hbm S512x256 .f32))
    (dst := (xM : Memref sig .tc .vmem S512x256 .f32)) (sem := .dma (inS 0)) (r := 0) (d := 0) (fs := m ((c : Thread nD τ).loc main_arg0)) (fd := f) (q := fullShare)
    (by rw [duties_dma m _ _ (by decide)]; exact Finset.mem_singleton_self _) () N0 rfl (amount_dma m c (inS 0) 0)
    (by rw [payload_dma, pay_in0]; exact in0_landed m c f)) $$ [Ha Hx Ht]
  · isplitr; · iexact HI
    isplitl [Ha]; · rw [e2]; iexact Ha
    isplitl [Hx]; · rw [e1]; iexact Hx
    isplitl [Ht]; · iexact Ht
    iexact Hr
  iexact Hk

/-- The wait for that copy. -/
theorem wp_wait_in0 (c : Dev nD) {hsrc : (aM : Memref sig .tc .hbm S512x256 .f32).view.WordExact} {hdst : (xM : Memref sig .tc .vmem S512x256 .f32).view.WordExact}
    {α : Type} {Q : α → sProp 𝕄} {kt : PUnit → Prog (TpuEff nD τ sig (Elt F) Λ₀ .tc) α} :
    iprop(recs m K ∗ wtk c (inS 0) ∗ crd c (inS 0) ∗ ow c 3)
      ⊢ iprop(((in0Pay m c ∗ shut c (inS 0) ∗ ow c 3) -∗ wpc c (kt ⟨⟩) Q)
          -∗ wpc c (.op (.waitDma2 (inS 0) (aM : Memref sig .tc .hbm S512x256 .f32) (xM : Memref sig .tc .vmem S512x256 .f32) hsrc hdst) kt) Q) := by
  rw [← pay_in0]
  exact wp_wait_dma m K c (inS 0) (by decide) 3 (mayWait_owed c _ 3 (by decide)) rfl

theorem in1_landed (c : Dev nD) (f : Buf (Elt F) ((c : Thread nD τ).loc cc0_scratch1)) :
    iprop(((eM : Memref sig .tc .vmem S4x256x512 .f32).view.loc (c : Thread nD τ) ↦[(eM : Memref sig .tc .vmem S4x256x512 .f32).view.set]{fullShare}
        ((eM : Memref sig .tc .vmem S4x256x512 .f32).view.write (Elt F) f ((gM : Memref sig .tc .hbm S4x256x512 .f32).view.read (Elt F) (m ((c : Thread nD τ).loc main_arg3))) Finset.univ))
      ∗ ((gM : Memref sig .tc .hbm S4x256x512 .f32).view.loc (c : Thread nD τ) ↦[(gM : Memref sig .tc .hbm S4x256x512 .f32).view.set]{fullShare} m ((c : Thread nD τ).loc main_arg3)))
      ⊢ (in1Pay m c : sProp 𝕄) := by
  have e1 : (eM : Memref sig .tc .vmem S4x256x512 .f32).view.set = Finset.univ := View.set_whole _
  have e2 : (gM : Memref sig .tc .hbm S4x256x512 .f32).view.set = Finset.univ := View.set_whole _
  have e3 : (eM : Memref sig .tc .vmem S4x256x512 .f32).view.write (Elt F) f ((gM : Memref sig .tc .hbm S4x256x512 .f32).view.read (Elt F) (m ((c : Thread nD τ).loc main_arg3))) Finset.univ
      = gB m c := View.write_whole_univ _ _ _
  rw [e1, e2, e3]
  exact BI.Entails.refl _

/-- The copy of the expert weights into the device's own memory. -/
theorem wp_in1 (c : Dev nD) {hsrc : (gM : Memref sig .tc .hbm S4x256x512 .f32).view.WordExact} {hdst : (eM : Memref sig .tc .vmem S4x256x512 .f32).view.WordExact}
    {hsem : DmaTarget.Typed .hbm (.dma (inS 1)) (.here eM : DmaTarget nD τ sig (c : Thread nD τ).2 .vmem S4x256x512 .f32)}
    {α : Type} {Q : α → sProp 𝕄} {kt : PUnit → Prog (TpuEff nD τ sig (Elt F) Λ₀ .tc) α} :
    iprop(recs m K ∗ (((c : Thread nD τ).loc main_arg3) ↦{fullShare} m ((c : Thread nD τ).loc main_arg3)) ∗ (∃ f, ((c : Thread nD τ).loc cc0_scratch1) ↦{fullShare} f) ∗ ptk c (inS 1))
      ⊢ iprop((crd c (inS 1) -∗ wpc c (kt ⟨⟩) Q)
          -∗ wpc c (.op (.enqueueDma (gM : Memref sig .tc .hbm S4x256x512 .f32) (.here (eM : Memref sig .tc .vmem S4x256x512 .f32)) (.dma (inS 1)) hsrc hdst hsem) kt) Q) := by
  have e1 : (eM : Memref sig .tc .vmem S4x256x512 .f32).view.set = Finset.univ := View.set_whole _
  have e2 : (gM : Memref sig .tc .hbm S4x256x512 .f32).view.set = Finset.univ := View.set_whole _
  iintro ⟨#HR, Ha, ⟨%f, Hx⟩, Ht⟩ Hk
  ihave #Hd := (recs_dma m K c (inS 1) (by decide)) $$ HR
  icases Hd with ⟨#HI, #Hr⟩
  iapply (Rounds.wp_copy_pointsTo 𝒱₀ ER (rd m) (c : Thread nD τ) none (κ := K (c, ix (inS 1))) (src := (gM : Memref sig .tc .hbm S4x256x512 .f32))
    (dst := (eM : Memref sig .tc .vmem S4x256x512 .f32)) (sem := .dma (inS 1)) (r := 0) (d := 0) (fs := m ((c : Thread nD τ).loc main_arg3)) (fd := f) (q := fullShare)
    (by rw [duties_dma m _ _ (by decide)]; exact Finset.mem_singleton_self _) () N1 rfl (amount_dma m c (inS 1) 0)
    (by rw [payload_dma, pay_in1]; exact in1_landed m c f)) $$ [Ha Hx Ht]
  · isplitr; · iexact HI
    isplitl [Ha]; · rw [e2]; iexact Ha
    isplitl [Hx]; · rw [e1]; iexact Hx
    isplitl [Ht]; · iexact Ht
    iexact Hr
  iexact Hk

/-- The wait for that copy. -/
theorem wp_wait_in1 (c : Dev nD) {hsrc : (gM : Memref sig .tc .hbm S4x256x512 .f32).view.WordExact} {hdst : (eM : Memref sig .tc .vmem S4x256x512 .f32).view.WordExact}
    {α : Type} {Q : α → sProp 𝕄} {kt : PUnit → Prog (TpuEff nD τ sig (Elt F) Λ₀ .tc) α} :
    iprop(recs m K ∗ wtk c (inS 1) ∗ crd c (inS 1) ∗ ow c 3)
      ⊢ iprop(((in1Pay m c ∗ shut c (inS 1) ∗ ow c 3) -∗ wpc c (kt ⟨⟩) Q)
          -∗ wpc c (.op (.waitDma2 (inS 1) (gM : Memref sig .tc .hbm S4x256x512 .f32) (eM : Memref sig .tc .vmem S4x256x512 .f32) hsrc hdst) kt) Q) := by
  rw [← pay_in1]
  exact wp_wait_dma m K c (inS 1) (by decide) 3 (mayWait_owed c _ 3 (by decide)) rfl

/-- A load of the device's own rows of the result, whose value nobody reads. -/
theorem wp_ld_rows (c : Dev nD) (h : Fin 2) {off : Fin 2 → ℕ} (hoff : off = ![128 * c.val + 64 * h.val, 0])
    {inb : ∀ a, off a + S64x512.size a ≤ S512x512.size a}
    {hl : (oM : Memref sig .tc .vmem S512x512 .bf16).view.LoadsAt (Rect.unit (s := S512x512) off S64x512.size inb).toLoadRect}
    (f : Buf (Elt F) ((c : Thread nD τ).loc cc0_stg2_0))
    {α : Type} {Q : α → sProp 𝕄} {kt : Vec F S64x512 .bf16 → Prog (TpuEff nD τ sig (Elt F) Λ₀ .tc) α} :
    oPt c c h fullShare f
      ⊢ iprop((oPt c c h fullShare f -∗ wpc c (kt (((oM : Memref sig .tc .vmem S512x512 .bf16).access (Rect.unit (s := S512x512) off S64x512.size inb)).read (Elt F) f)) Q)
          -∗ wpc c (.op (.load (oM : Memref sig .tc .vmem S512x512 .bf16) (Rect.unit (s := S512x512) off S64x512.size inb).toLoadRect hl) kt) Q) := by
  subst hoff
  unfold oPt
  exact wp_load_rect 𝒱₀ (c : Thread nD τ) none Set.univ (m := (oM : Memref sig .tc .vmem S512x512 .bf16)) (r := rowR c h) (S := (rows c h).view.set)
    (Finset.Subset.refl _)

/-- The store of the reduced rows. -/
theorem wp_st_rows (c : Dev nD) (h : Fin 2) {off : Fin 2 → ℕ} (hoff : off = ![128 * c.val + 64 * h.val, 0])
    {inb : ∀ a, off a + S64x512.size a ≤ S512x512.size a}
    {hx : ((oM : Memref sig .tc .vmem S512x512 .bf16).access (Rect.unit (s := S512x512) off S64x512.size inb)).Stores Finset.univ}
    {hm : (Finset.univ : Finset (Rect.unit (s := S512x512) off S64x512.size inb).shape.Idx) = Finset.univ ∨ ∀ a, (Rect.unit (s := S512x512) off S64x512.size inb).stride a = 1}
    (f : Buf (Elt F) ((c : Thread nD τ).loc cc0_stg2_0))
    {α : Type} {Q : α → sProp 𝕄} {kt : PUnit → Prog (TpuEff nD τ sig (Elt F) Λ₀ .tc) α} :
    oPt c c h fullShare f
      ⊢ iprop((oPt c c h fullShare (outB m c) -∗ wpc c (kt ⟨⟩) Q)
          -∗ wpc c (.op (.store (oM : Memref sig .tc .vmem S512x512 .bf16) (Rect.unit (s := S512x512) off S64x512.size inb) (red m c h) Finset.univ hx hm) kt) Q) := by
  rw [← o_stored m c h off hoff inb f]
  subst hoff
  unfold oPt
  exact wp_store 𝒱₀ (c : Thread nD τ) none Set.univ (m := (oM : Memref sig .tc .vmem S512x512 .bf16)) (r := rowR c h) (Mk := Finset.univ) (S := (rows c h).view.set)
    (Finset.Subset.refl _)

end Parts

end Cert.Moe

end
-- ==== Proof.PartsA.lean ====
/-
# The expert layer on four devices: the parts of the body up to the last partial product
-/
module

public import proofs.«01_k».proof.Proof.Rules

@[expose] public section

set_option maxRecDepth 16384

noncomputable section

namespace Cert.Moe

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! What the loads of whole buffers read. -/
theorem rd_x (c : Dev nD) : (xM : Memref sig .tc .vmem S512x256 .f32).view.readAt (Elt F) (Rect.unit (s := S512x256) ![0, 0] S512x256.size inb_S512x256_S512x256_0_0).toLoadRect (xB m c) = xB m c :=
  Memref.readAt_unit_zero (Elt F) cc0_scratch0 (by decide) _ _
theorem rd_p (c : Dev nD) : (pM : Memref sig .tc .vmem S256x16 .f32).view.readAt (Elt F) (Rect.unit (s := S256x16) ![0, 0] S256x16.size inb_S256x16_S256x16_0_0).toLoadRect (pB m c) = pB m c :=
  Memref.readAt_unit_zero (Elt F) cc0_stg0_0 (by decide) _ _
theorem rd_e (c : Dev nD) : (eM : Memref sig .tc .vmem S4x256x512 .f32).view.readAt (Elt F) (Rect.unit (s := S4x256x512) ![0, 0, 0] S4x256x512.size inb_S4x256x512_S4x256x512_0_0_0).toLoadRect (gB m c) = gB m c :=
  Memref.readAt_unit_zero (Elt F) cc0_scratch1 (by decide) _ _
theorem rd_b (c : Dev nD) : (bM : Memref sig .tc .vmem S4x256x512 .bf16).view.readAt (Elt F) (Rect.unit (s := S4x256x512) ![0, 0, 0] S4x256x512.size inb_S4x256x512_S4x256x512_0_0_0).toLoadRect (bB m c) = bB m c :=
  Memref.readAt_unit_zero (Elt F) cc0_scratch2 (by decide) _ _
/-! What the stores of whole buffers leave. -/
theorem st_w (c : Dev nD) (f w : Buf (Elt F) ((c : Thread nD τ).loc cc0_scratch3)) :
    ((wM : Memref sig .tc .vmem S512x4 .f32).access (Rect.unit (s := S512x4) ![0, 0] S512x4.size inb_S512x4_S512x4_0_0)).write (Elt F) f w Finset.univ = w :=
  Memref.write_access_unit_zero_univ (Elt F) cc0_scratch3 (by decide) _ _ _
theorem st_b (c : Dev nD) (f w : Buf (Elt F) ((c : Thread nD τ).loc cc0_scratch2)) :
    ((bM : Memref sig .tc .vmem S4x256x512 .bf16).access (Rect.unit (s := S4x256x512) ![0, 0, 0] S4x256x512.size inb_S4x256x512_S4x256x512_0_0_0)).write (Elt F) f w Finset.univ = w :=
  Memref.write_access_unit_zero_univ (Elt F) cc0_scratch2 (by decide) _ _ _

theorem rd_i0 (c : Dev nD) : (iM : Memref sig .tc .vmem S512x2 .i32).view.readAt (Elt F) (Rect.unit (s := S512x2) ![0, 0] S512x1.size inb_S512x2_S512x1_0_0).toLoadRect (iB m c) = i0 m c := rfl
theorem rd_i1 (c : Dev nD) : (iM : Memref sig .tc .vmem S512x2 .i32).view.readAt (Elt F) (Rect.unit (s := S512x2) ![0, 1] S512x1.size inb_S512x2_S512x1_0_1).toLoadRect (iB m c) = i1 m c := rfl

/-- A staged window at its contents. -/
abbrev atP (c : Dev nD) : sProp 𝕄 := ((c : Thread nD τ).loc cc0_stg0_0) ↦{fullShare} pB m c
abbrev atI (c : Dev nD) : sProp 𝕄 := ((c : Thread nD τ).loc cc0_stg1_0) ↦{fullShare} iB m c
/-- The numbers of the peers as the body computes them, and its barrier cell. -/
abbrev pw1 (c : Dev nD) : BitVec 32 := Scalar.remsi (Scalar.addi (Scalar.addi (Scalar.addi (vw c) 0#32) 1#32) 8#32) 4#32
abbrev pw2 (c : Dev nD) : BitVec 32 := Scalar.remsi (Scalar.addi (Scalar.addi (Scalar.addi (vw c) 1#32) 1#32) 8#32) 4#32
abbrev pw3 (c : Dev nD) : BitVec 32 := Scalar.remsi (Scalar.addi (Scalar.addi (Scalar.addi (vw c) 2#32) 1#32) 8#32) 4#32
abbrev barA : Sems sig S_ := SemArray.scalar (sig.barrier 0 rfl)
/-- What a device hands over with its signal to peer `j`, and the token of that signal. -/
abbrev sigRes (c : Dev nD) (j : Fin 3) : sProp 𝕄 :=
  iprop((∃ f, rSlab c j f) ∗ (∃ f, oChunk c (q j c) f) ∗ dutyTok ER (barC (q j c)) 0 (rev j))

section Parts
variable (K : Dev nD × Fin 27 → ℕ)

/-- The two input copies start, and the three peers are told that this device's landing places are free. -/
theorem part1 (c : Dev nD) (Q : (Σ' (_ : Dev nD) (_ : BitVec 32) (_ : BitVec 32) (_ : BitVec 32) (_ : BitVec 32), Sems sig S_) → sProp 𝕄) :
    iprop(recs m K ∗ (ow c 0 ∗ (((c : Thread nD τ).loc main_arg0) ↦{fullShare} m ((c : Thread nD τ).loc main_arg0))
          ∗ (((c : Thread nD τ).loc main_arg3) ↦{fullShare} m ((c : Thread nD τ).loc main_arg3))
          ∗ (∃ f, ((c : Thread nD τ).loc cc0_scratch0) ↦{fullShare} f) ∗ (∃ f, ((c : Thread nD τ).loc cc0_scratch1) ↦{fullShare} f)
          ∗ ptk c (inS 0) ∗ ptk c (inS 1) ∗ sigRes c 0 ∗ sigRes c 1 ∗ sigRes c 2)
        ∗ ((crd c (inS 0) ∗ crd c (inS 1) ∗ ow c 3) -∗ Q ⟨c, vw c, pw1 c, pw2 c, pw3 c, barA⟩))
      ⊢ wpc c (app (k0_part1 (F := F))) Q := by
  unfold app wpc
  simp only [k0_part1_eq_skeleton]; unfold k0_part1_skel
  simp only [Prog.lift, Prog.bind_op, Prog.bind_ret, Prog.pure_eq_ret, semSignalWord]
  iintro ⟨#HR, ⟨HO, Ha, Hg, Hx, He, Ht0, Ht1, ⟨⟨%r0, Hr0⟩, ⟨%o0, Ho0⟩, Hs0⟩, ⟨⟨%r1, Hr1⟩, ⟨%o1, Ho1⟩, Hs1⟩, ⟨⟨%r2, Hr2⟩, ⟨%o2, Ho2⟩, Hs2⟩⟩, Hk⟩
  rw [wp_deviceId]
  iapply (wp_in0 m K c) $$ [Ha Hx Ht0]
  · iframe HR Ha Hx Ht0
  iintro Hc0
  iapply (wp_in1 m K c) $$ [Hg He Ht1]
  · iframe HR Hg He Ht1
  iintro Hc1
  iapply (wp_sig m K c _ 0 (dev1_eq c) 0 rfl r0 o0) $$ [Hr0 Ho0 Hs0 HO]
  · iframe HR Hr0 Ho0 Hs0 HO
  iintro HO
  iapply (wp_sig m K c _ 1 (dev2_eq c) 1 rfl r1 o1) $$ [Hr1 Ho1 Hs1 HO]
  · iframe HR Hr1 Ho1 Hs1 HO
  iintro HO
  iapply (wp_sig m K c _ 2 (dev3_eq c) 2 rfl r2 o2) $$ [Hr2 Ho2 Hs2 HO]
  · iframe HR Hr2 Ho2 Hs2 HO
  iintro HO
  try unfold wpc
  rw [wp_ret, show ((c : Thread nD τ).1 : Dev nD) = c from rfl, show Scalar.remsi (Scalar.divsi (Dev.word c) 1#32) 4#32 = vw c from rfl]; imodintro
  iapply Hk
  iframe Hc0 Hc1 HO

/-- The activations arrive, and the gates are computed of them. -/
theorem part2 (c : Dev nD) (Q : (Σ' (_ : IVec S512x1 32) (_ : IVec S512x1 32) (_ : FVec F S512x1 .f32) (_ : FVec F S512x1 .f32) (_ : FVec F S512x1 .f32), IVec S512x1 1) → sProp 𝕄) :
    iprop(recs m K ∗ (wtk c (inS 0) ∗ crd c (inS 0) ∗ ow c 3 ∗ atP m c ∗ atI m c)
        ∗ ((in0Pay m c ∗ shut c (inS 0) ∗ ow c 3 ∗ atP m c ∗ atI m c)
            -∗ Q ⟨k0_pay2 (i0 m c), k0_pay3 (i1 m c), k0_pay7 (xB m c) (pB m c) (i0 m c) (i1 m c), k0_pay8 (xB m c) (pB m c) (i0 m c) (i1 m c),
                k0_pay9 (vw c) (xB m c) (pB m c) (i0 m c) (i1 m c), k0_pay10 (vw c) (i1 m c)⟩))
      ⊢ wpc c (app (k0_part2 (F := F)) (vw c)) Q := by
  unfold app wpc
  simp only [k0_part2_eq_skeleton]; unfold k0_part2_skel
  simp only [Prog.lift, Prog.bind_op, Prog.bind_ret, Prog.pure_eq_ret]
  iintro ⟨#HR, ⟨Hw, Hc, HO, Hp, Hi⟩, Hk⟩
  iapply (wp_wait_in0 m K c) $$ [Hw Hc HO]
  · iframe HR Hw Hc HO
  unfold in0Pay
  iintro ⟨⟨Hx, Ha⟩, Hsh, HO⟩
  iapply (wp_load 𝒱₀ (c : Thread nD τ) none Set.univ (m := xM) (Finset.subset_univ _)) $$ Hx; iintro Hx
  iapply (wp_load 𝒱₀ (c : Thread nD τ) none Set.univ (m := pM) (Finset.subset_univ _)) $$ Hp; iintro Hp
  iapply (wp_load 𝒱₀ (c : Thread nD τ) none Set.univ (m := iM) (Finset.subset_univ _)) $$ Hi; iintro Hi
  iapply (wp_load 𝒱₀ (c : Thread nD τ) none Set.univ (m := iM) (Finset.subset_univ _)) $$ Hi; iintro Hi
  rw [rd_x m c, rd_p m c, rd_i0 m c, rd_i1 m c]
  try unfold wpc
  rw [wp_ret]; imodintro
  iapply Hk
  iframe Hx Ha Hsh HO Hp Hi

/-- The gates are stored, and the expert weights arrive. -/
theorem part3 (c : Dev nD) (Q : PUnit → sProp 𝕄) :
    iprop(recs m K ∗ ((∃ f, ((c : Thread nD τ).loc cc0_scratch3) ↦{fullShare} f) ∗ wtk c (inS 1) ∗ crd c (inS 1) ∗ ow c 3)
        ∗ ((at3w m c ∗ in1Pay m c ∗ shut c (inS 1) ∗ ow c 3) -∗ Q ⟨⟩))
      ⊢ wpc c (app (k0_part3 (F := F)) (vw c) (k0_pay2 (i0 m c)) (k0_pay3 (i1 m c)) (k0_pay7 (xB m c) (pB m c) (i0 m c) (i1 m c))
          (k0_pay8 (xB m c) (pB m c) (i0 m c) (i1 m c)) (k0_pay9 (vw c) (xB m c) (pB m c) (i0 m c) (i1 m c)) (k0_pay10 (vw c) (i1 m c))) Q := by
  unfold app wpc
  simp only [k0_part3_eq_skeleton]; unfold k0_part3_skel
  simp only [Prog.lift, Prog.bind_op, Prog.bind_ret, Prog.pure_eq_ret]
  iintro ⟨#HR, ⟨⟨%f, Hg⟩, Hw, Hc, HO⟩, Hk⟩
  iapply (wp_load_rect 𝒱₀ (c : Thread nD τ) none Set.univ (m := wM) (r := Rect.unit (s := S512x4) ![0, 0] S512x4.size inb_S512x4_S512x4_0_0) (S := Finset.univ) (f := f) (Finset.subset_univ _)) $$ Hg; iintro Hg
  iapply (wp_store 𝒱₀ (c : Thread nD τ) none Set.univ (m := wM) (r := Rect.unit (s := S512x4) ![0, 0] S512x4.size inb_S512x4_S512x4_0_0) (Mk := Finset.univ) (S := Finset.univ) (f := f) (Finset.subset_univ _)) $$ Hg; iintro Hg
  rw [st_w c f]
  iapply (wp_wait_in1 m K c) $$ [Hw Hc HO]
  · iframe HR Hw Hc HO
  iintro ⟨He, Hsh, HO⟩
  try unfold wpc
  rw [wp_ret]; imodintro
  iapply Hk
  unfold at3w wB
  iframe Hg He Hsh HO

/-- The weights are narrowed, the first partial product is stored, and the peers are waited for. -/
theorem part4 (c : Dev nD) (v6 : BitVec 32) (Q : (Σ' (_ : FVec F S1024x512 .bf16), BitVec 32) → sProp 𝕄) :
    iprop(recs m K ∗ (at1 m c ∗ (∃ f, ((c : Thread nD τ).loc cc0_scratch2) ↦{fullShare} f) ∗ at0 m c ∗ at3w m c ∗ (∃ f, sSlab c 0 f)
          ∗ atPos ER (barC c) 0 ∅ 0 ∗ cred (tallyAt (barC c) () 3) ∗ ow c 3)
        ∗ ((at1 m c ∗ at2 m c ∗ at0 m c ∗ at3w m c ∗ sSlab c 0 (sendB m c) ∗ barPay c 0 ∗ barPay c 1 ∗ barPay c 2 ∗ semVal (barC c) 0 ∗ ow c 3)
            -∗ Q ⟨k0_pay13 (bB m c), 1#32⟩))
      ⊢ wpc c (app (k0_part4 (F := F)) c v6 barA) Q := by
  unfold app wpc
  simp only [k0_part4_eq_skeleton]; unfold k0_part4_skel
  simp only [Prog.lift, Prog.bind_op, Prog.bind_ret, Prog.pure_eq_ret, semWaitWord]
  iintro ⟨#HR, ⟨He, ⟨%f, Hb⟩, Hx, Hw, ⟨%g, Hs⟩, Hp, Hc, HO⟩, Hk⟩
  iapply (wp_load 𝒱₀ (c : Thread nD τ) none Set.univ (m := eM) (Finset.subset_univ _)) $$ He; iintro He
  iapply (wp_load_rect 𝒱₀ (c : Thread nD τ) none Set.univ (m := bM) (r := Rect.unit (s := S4x256x512) ![0, 0, 0] S4x256x512.size inb_S4x256x512_S4x256x512_0_0_0) (S := Finset.univ) (f := f) (Finset.subset_univ _)) $$ Hb; iintro Hb
  iapply (wp_store 𝒱₀ (c : Thread nD τ) none Set.univ (m := bM) (r := Rect.unit (s := S4x256x512) ![0, 0, 0] S4x256x512.size inb_S4x256x512_S4x256x512_0_0_0) (Mk := Finset.univ) (S := Finset.univ) (f := f) (Finset.subset_univ _)) $$ Hb; iintro Hb
  rw [st_b c f]
  rw [rd_e m c, show k0_pay12 (gB m c) = bB m c from rfl]
  iapply (wp_load 𝒱₀ (c : Thread nD τ) none Set.univ (m := bM) (Finset.subset_univ _)) $$ Hb; iintro Hb
  rw [rd_b m c]
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  rw [rd_x0 m c, rd_w0 m c]
  iapply (wp_ld_slab c 0 g) $$ Hs; iintro Hs
  rw [show k0_pay14 (bB m c) (xr m c 0) (wr m c 0) = part m c 0 from rfl]
  iapply (wp_st_slab m c 0 g) $$ Hs; iintro Hs
  iapply (wp_wait_bar m K c) $$ [Hp Hc HO]
  · iframe HR Hp Hc HO
  iintro ⟨Hb0, Hb1, Hb2, Hv, HO⟩
  try unfold wpc
  rw [wp_ret]; imodintro
  iapply Hk
  iframe He Hb Hx Hw Hs Hb0 Hb1 Hb2 Hv HO

/-- The first slab is sent, and the second peer's chunk is read. -/
theorem part5 (c : Dev nD) (v6 v10 w : BitVec 32) (Q : (Σ' (_ : FVec F S128x256 .bf16) (_ : FVec F S128x256 .bf16) (_ : FVec F S128x256 .bf16), FVec F S128x256 .f32) → sProp 𝕄) :
    iprop(recs m K ∗ (sSlab c 0 (sendB m c) ∗ (∃ f, rPt (q 0 c) (rev 0) 0 f) ∗ (∃ f, rPt (q 0 c) (rev 0) 1 f) ∗ rsTok c 0 0 ∗ rsTok c 0 1 ∗ ow c 3 ∗ at0 m c ∗ at3w m c)
        ∗ ((crd c (rsS 0 0) ∗ crd c (rsS 0 1) ∗ ow c 5 ∗ at0 m c ∗ at3w m c)
            -∗ Q ⟨k0_pay15 (xr m c 1) (wr m c 1), k0_pay16 (xr m c 1) (wr m c 1), k0_pay17 (xr m c 1) (wr m c 1), k0_pay18 (xr m c 1) (wr m c 1)⟩))
      ⊢ wpc c (app (k0_part5 (F := F)) c v6 v10 w) Q := by
  unfold app wpc
  simp only [k0_part5_eq_skeleton]; unfold k0_part5_skel
  simp only [Prog.lift, Prog.bind_op, Prog.bind_ret, Prog.pure_eq_ret]
  iintro ⟨#HR, ⟨Hs, Hr0, Hr1, ⟨Ht00, Ht01⟩, ⟨Ht10, Ht11⟩, HO, Hx, Hw⟩, Hk⟩
  ihave Hs := (Entails.of_eq (s_halves c 0 (sendB m c))) $$ Hs
  icases Hs with ⟨Hs0, Hs1⟩
  iapply (wp_rs m K c _ 0 0 (dev4_eq c) 3 rfl) $$ [Hs0 Hr0 Ht00 Ht01 HO]
  · iframe HR Hs0 Hr0 Ht00 Ht01 HO
  iintro ⟨Hc0, HO⟩
  iapply (wp_rs m K c _ 0 1 (dev5_eq c) 4 rfl) $$ [Hs1 Hr1 Ht10 Ht11 HO]
  · isplitr; · iexact HR
    isplitl [Hs1]; · iexact Hs1
    isplitl [Hr1]; · iexact Hr1
    isplitl [Ht10]; · iexact Ht10
    isplitl [Ht11]; · iexact Ht11
    iexact HO
  iintro ⟨Hc1, HO⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  rw [rd_x1 m c, rd_w1 m c, wp_ret]; imodintro
  iapply Hk
  iframe Hc0 Hc1 HO Hx Hw

/-- The second slab is stored and sent, and the third peer's chunk is read. -/
theorem part6 (c : Dev nD) (v10 v14 : BitVec 32) (Q : Vec F S128x256 .f32 → sProp 𝕄) :
    iprop(recs m K ∗ ((∃ f, sSlab c 1 f) ∗ (∃ f, rPt (q 1 c) (rev 1) 0 f) ∗ (∃ f, rPt (q 1 c) (rev 1) 1 f) ∗ rsTok c 1 0 ∗ rsTok c 1 1 ∗ ow c 5 ∗ at0 m c)
        ∗ ((crd c (rsS 1 0) ∗ crd c (rsS 1 1) ∗ ow c 7 ∗ at0 m c) -∗ Q (xr m c 2)))
      ⊢ wpc c (app (k0_part6 (F := F)) c v10 v14 (k0_pay13 (bB m c)) (k0_pay15 (xr m c 1) (wr m c 1)) (k0_pay16 (xr m c 1) (wr m c 1))
          (k0_pay17 (xr m c 1) (wr m c 1)) (k0_pay18 (xr m c 1) (wr m c 1))) Q := by
  unfold app wpc
  simp only [k0_part6_eq_skeleton]; unfold k0_part6_skel
  simp only [Prog.lift, Prog.bind_op, Prog.bind_ret, Prog.pure_eq_ret]
  iintro ⟨#HR, ⟨⟨%g, Hs⟩, Hr0, Hr1, ⟨Ht00, Ht01⟩, ⟨Ht10, Ht11⟩, HO, Hx⟩, Hk⟩
  iapply (wp_ld_slab c 1 g) $$ Hs; iintro Hs
  rw [show k0_pay19 (k0_pay13 (bB m c)) (k0_pay15 (xr m c 1) (wr m c 1)) (k0_pay16 (xr m c 1) (wr m c 1))
    (k0_pay17 (xr m c 1) (wr m c 1)) (k0_pay18 (xr m c 1) (wr m c 1)) = part m c 1 from rfl]
  iapply (wp_st_slab m c 1 g) $$ Hs; iintro Hs
  ihave Hs := (Entails.of_eq (s_halves c 1 (sendB m c))) $$ Hs
  icases Hs with ⟨Hs0, Hs1⟩
  iapply (wp_rs m K c _ 1 0 (dev6_eq c) 5 rfl) $$ [Hs0 Hr0 Ht00 Ht01 HO]
  · iframe HR Hs0 Hr0 Ht00 Ht01 HO
  iintro ⟨Hc0, HO⟩
  iapply (wp_rs m K c _ 1 1 (dev7_eq c) 6 rfl) $$ [Hs1 Hr1 Ht10 Ht11 HO]
  · iframe HR Hs1 Hr1 Ht10 Ht11 HO
  iintro ⟨Hc1, HO⟩
  iapply (wp_load 𝒱₀ (c : Thread nD τ) none Set.univ (m := xM) (Finset.subset_univ _)) $$ Hx; iintro Hx
  rw [rd_x2 m c]
  try unfold wpc
  rw [wp_ret]; imodintro
  iapply Hk
  iframe Hc0 Hc1 HO Hx

/-- The third slab is stored, and its first half sent. -/
theorem part7 (c : Dev nD) (v14 : BitVec 32) (Q : PUnit → sProp 𝕄) :
    iprop(recs m K ∗ (at3w m c ∗ (∃ f, sSlab c 2 f) ∗ (∃ f, rPt (q 2 c) (rev 2) 0 f) ∗ rsTok c 2 0 ∗ ow c 7)
        ∗ ((at3w m c ∗ sPt c 2 1 (sendB m c) ∗ crd c (rsS 2 0) ∗ ow c 8) -∗ Q ⟨⟩))
      ⊢ wpc c (app (k0_part7 (F := F)) c v14 (k0_pay13 (bB m c)) (xr m c 2)) Q := by
  unfold app wpc
  simp only [k0_part7_eq_skeleton]; unfold k0_part7_skel
  simp only [Prog.lift, Prog.bind_op, Prog.bind_ret, Prog.pure_eq_ret]
  iintro ⟨#HR, ⟨Hw, ⟨%g, Hs⟩, Hr0, ⟨Ht00, Ht01⟩, HO⟩, Hk⟩
  iapply (wp_load 𝒱₀ (c : Thread nD τ) none Set.univ (m := wM) (Finset.subset_univ _)) $$ Hw; iintro Hw
  rw [rd_w2 m c]
  iapply (wp_ld_slab c 2 g) $$ Hs; iintro Hs
  rw [show k0_pay20 (k0_pay13 (bB m c)) (xr m c 2) (wr m c 2) = part m c 2 from rfl]
  iapply (wp_st_slab m c 2 g) $$ Hs; iintro Hs
  ihave Hs := (Entails.of_eq (s_halves c 2 (sendB m c))) $$ Hs
  icases Hs with ⟨Hs0, Hs1⟩
  iapply (wp_rs m K c _ 2 0 (dev8_eq c) 7 rfl) $$ [Hs0 Hr0 Ht00 Ht01 HO]
  · iframe HR Hs0 Hr0 Ht00 Ht01 HO
  iintro ⟨Hc0, HO⟩
  try unfold wpc
  rw [wp_ret]; imodintro
  iapply Hk
  iframe Hw Hs1 Hc0 HO

/-- Its second half is sent, and the device's own chunk is multiplied. -/
theorem part8 (c : Dev nD) (Q : (Σ' (_ : FVec F S128x512 .f32), BitVec 32) → sProp 𝕄) :
    iprop(recs m K ∗ (sPt c 2 1 (sendB m c) ∗ (∃ f, rPt (q 2 c) (rev 2) 1 f) ∗ rsTok c 2 1 ∗ ow c 8 ∗ at0 m c ∗ at3w m c)
        ∗ ((crd c (rsS 2 1) ∗ ow c 9 ∗ at0 m c ∗ at3w m c) -∗ Q ⟨mine m c, Scalar.addi (Scalar.muli (vw c) 128#32) 0#32⟩))
      ⊢ wpc c (app (k0_part8 (F := F)) c (vw c) (k0_pay13 (bB m c))) Q := by
  unfold app wpc
  simp only [k0_part8_eq_skeleton]; unfold k0_part8_skel
  simp only [Prog.lift, Prog.bind_op, Prog.bind_ret, Prog.pure_eq_ret]
  iintro ⟨#HR, ⟨Hs1, Hr1, ⟨Ht10, Ht11⟩, HO, Hx, Hw⟩, Hk⟩
  iapply (wp_rs m K c _ 2 1 (dev9_eq c) 8 rfl) $$ [Hs1 Hr1 Ht10 Ht11 HO]
  · iframe HR Hs1 Hr1 Ht10 Ht11 HO
  iintro ⟨Hc1, HO⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  rw [rd_x3 m c, rd_w3 m c, show k0_pay21 (k0_pay13 (bB m c)) (xo m c) (wo m c) = mine m c from rfl]
  try unfold wpc
  rw [wp_ret]; imodintro
  iapply Hk
  iframe Hc1 HO Hx Hw

end Parts

end Cert.Moe

end
-- ==== Proof.PartsB.lean ====
/-
# The expert layer on four devices: the sums, the exchange of rows and the last waits
-/
module

public import proofs.«01_k».proof.Proof.PartsA

@[expose] public section

set_option maxRecDepth 16384

noncomputable section

namespace Cert.Moe

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a wait needs: its position and its credit. -/
abbrev rdy (c : Dev nD) (p : DmaSem sig) : sProp 𝕄 := iprop(wtk c p ∗ crd c p)
/-- The two first addends of the first half of the result's rows, and the third. -/
abbrev sum0 (c : Dev nD) : FVec F S64x512 .f32 := k0_pay22 (mine m c) (slot m c 0 0) (slot m c 1 0)
abbrev last0 (c : Dev nD) : FVec F S64x512 .f32 := k0_pay23 (slot m c 2 0)
abbrev sum1 (c : Dev nD) : FVec F S64x512 .f32 := k0_pay25 (mine m c) (slot m c 0 1)

section Parts
variable (K : Dev nD × Fin 27 → ℕ)

/-- The three first halves arrive and are added. -/
theorem part9 (c : Dev nD) (Q : (Σ' (_ : FVec F S64x512 .f32), FVec F S64x512 .f32) → sProp 𝕄) :
    iprop(recs m K ∗ (rdy c (rsR 0 0) ∗ rdy c (rsR 1 0) ∗ rdy c (rsR 2 0) ∗ ow c 9)
        ∗ ((rPt c 0 0 (recvB m c) ∗ rPt c 1 0 (recvB m c) ∗ rPt c 2 0 (recvB m c) ∗ shut c (rsR 0 0) ∗ shut c (rsR 1 0) ∗ shut c (rsR 2 0) ∗ ow c 9)
            -∗ Q ⟨sum0 m c, last0 m c⟩))
      ⊢ wpc c (app (k0_part9 (F := F)) (vw c) (mine m c)) Q := by
  unfold app wpc
  simp only [k0_part9_eq_skeleton]; unfold k0_part9_skel
  simp only [Prog.lift, Prog.bind_op, Prog.bind_ret, Prog.pure_eq_ret]
  iintro ⟨#HR, ⟨Hw0, Hw1, Hw2, HO⟩, Hk⟩
  iapply (wp_wait_rsR m K c 0 0 9 (mayWait_owed c _ 9 (by decide))) $$ [Hw0 HO]
  · icases Hw0 with ⟨Ha, Hb⟩
    iframe HR Ha Hb HO
  iintro ⟨Hr0, Hv0, HO⟩
  iapply (wp_wait_rsR m K c 1 0 9 (mayWait_owed c _ 9 (by decide))) $$ [Hw1 HO]
  · icases Hw1 with ⟨Ha, Hb⟩
    iframe HR Ha Hb HO
  iintro ⟨Hr1, Hv1, HO⟩
  iapply (wp_wait_rsR m K c 2 0 9 (mayWait_owed c _ 9 (by decide))) $$ [Hw2 HO]
  · icases Hw2 with ⟨Ha, Hb⟩
    iframe HR Ha Hb HO
  iintro ⟨Hr2, Hv2, HO⟩
  iapply (wp_ld_slot m c 0 0) $$ Hr0; iintro Hr0
  iapply (wp_ld_slot m c 1 0) $$ Hr1; iintro Hr1
  iapply (wp_ld_slot m c 2 0) $$ Hr2; iintro Hr2
  try unfold wpc
  rw [wp_ret]; imodintro
  iapply Hk
  iframe Hr0 Hr1 Hr2 Hv0 Hv1 Hv2 HO

/-- The first half of the device's rows is stored and sent to the three peers. -/
theorem part10 (c : Dev nD) (v6 v10 v14 v283 : BitVec 32) (Q : (Σ' (_ : BitVec 32), BitVec 32) → sProp 𝕄) :
    iprop(recs m K ∗ ((∃ f, oPt c c 0 fullShare f) ∗ (∃ f, oPt (q 0 c) c 0 fullShare f) ∗ (∃ f, oPt (q 1 c) c 0 fullShare f) ∗ (∃ f, oPt (q 2 c) c 0 fullShare f)
          ∗ agTok c 0 0 ∗ agTok c 1 0 ∗ agTok c 2 0 ∗ ow c 9)
        ∗ ((oPt c c 0 (Transfers.shareDrop fullShare 3) (outB m c) ∗ crd c (agS 0 0) ∗ crd c (agS 1 0) ∗ crd c (agS 2 0) ∗ ow c 12)
            -∗ Q ⟨Scalar.addi (Scalar.muli (vw c) 128#32) 64#32, 1#32⟩))
      ⊢ wpc c (app (k0_part10 (F := F)) c (vw c) v6 v10 v14 v283 (sum0 m c) (last0 m c)) Q := by
  unfold app wpc
  simp only [k0_part10_eq_skeleton]; unfold k0_part10_skel
  simp only [Prog.lift, Prog.bind_op, Prog.bind_ret, Prog.pure_eq_ret]
  iintro ⟨#HR, ⟨⟨%f, Ho⟩, Hp0, Hp1, Hp2, Ht0, Ht1, Ht2, HO⟩, Hk⟩
  iapply (wp_ld_rows c 0 (off5_eq c 0) f) $$ Ho; iintro Ho
  rw [show k0_pay24 (sum0 m c) (last0 m c) = red m c 0 from rfl]
  iapply (wp_st_rows m c 0 (off5_eq c 0) f) $$ Ho; iintro Ho
  ihave Ho := (o_lend c 0 (outB m c)) $$ Ho
  icases Ho with ⟨Ho, Hl0, Hl1, Hl2⟩
  icases Ht0 with ⟨Hta, Htb⟩
  iapply (wp_ag m K c _ 0 0 (dev10_eq c) 9 rfl _ (rows0_eq c)) $$ [Hl0 Hp0 Hta Htb HO]
  · iframe HR Hl0 Hp0 Hta Htb HO
  iintro ⟨Hc0, HO⟩
  icases Ht1 with ⟨Hta, Htb⟩
  iapply (wp_ag m K c _ 1 0 (dev11_eq c) 10 rfl _ (rows0_eq c)) $$ [Hl1 Hp1 Hta Htb HO]
  · iframe HR Hl1 Hp1 Hta Htb HO
  iintro ⟨Hc1, HO⟩
  icases Ht2 with ⟨Hta, Htb⟩
  iapply (wp_ag m K c _ 2 0 (dev12_eq c) 11 rfl _ (rows0_eq c)) $$ [Hl2 Hp2 Hta Htb HO]
  · iframe HR Hl2 Hp2 Hta Htb HO
  iintro ⟨Hc2, HO⟩
  try unfold wpc
  rw [wp_ret]; imodintro
  iapply Hk
  iframe Ho Hc0 Hc1 Hc2 HO

/-- The three second halves arrive, and the first of them is added. -/
theorem part11 (c : Dev nD) (v349 : BitVec 32) (Q : FVec F S64x512 .f32 → sProp 𝕄) :
    iprop(recs m K ∗ (rdy c (rsR 0 1) ∗ rdy c (rsR 1 1) ∗ rdy c (rsR 2 1) ∗ ow c 12)
        ∗ ((rPt c 0 1 (recvB m c) ∗ rPt c 1 1 (recvB m c) ∗ rPt c 2 1 (recvB m c) ∗ shut c (rsR 0 1) ∗ shut c (rsR 1 1) ∗ shut c (rsR 2 1) ∗ ow c 12)
            -∗ Q (sum1 m c)))
      ⊢ wpc c (app (k0_part11 (F := F)) (vw c) (mine m c) v349) Q := by
  unfold app wpc
  simp only [k0_part11_eq_skeleton]; unfold k0_part11_skel
  simp only [Prog.lift, Prog.bind_op, Prog.bind_ret, Prog.pure_eq_ret]
  iintro ⟨#HR, ⟨Hw0, Hw1, Hw2, HO⟩, Hk⟩
  iapply (wp_wait_rsR m K c 0 1 12 (mayWait_owed c _ 12 (by decide))) $$ [Hw0 HO]
  · icases Hw0 with ⟨Ha, Hb⟩
    iframe HR Ha Hb HO
  iintro ⟨Hr0, Hv0, HO⟩
  iapply (wp_wait_rsR m K c 1 1 12 (mayWait_owed c _ 12 (by decide))) $$ [Hw1 HO]
  · icases Hw1 with ⟨Ha, Hb⟩
    iframe HR Ha Hb HO
  iintro ⟨Hr1, Hv1, HO⟩
  iapply (wp_wait_rsR m K c 2 1 12 (mayWait_owed c _ 12 (by decide))) $$ [Hw2 HO]
  · icases Hw2 with ⟨Ha, Hb⟩
    iframe HR Ha Hb HO
  iintro ⟨Hr2, Hv2, HO⟩
  iapply (wp_ld_slot m c 0 1) $$ Hr0; iintro Hr0
  try unfold wpc
  rw [wp_ret]; imodintro
  iapply Hk
  iframe Hr0 Hr1 Hr2 Hv0 Hv1 Hv2 HO

/-- The second half of the device's rows is stored and sent to two peers. -/
theorem part12 (c : Dev nD) (v6 v10 v14 v349 : BitVec 32) (Q : PUnit → sProp 𝕄) :
    iprop(recs m K ∗ (rPt c 1 1 (recvB m c) ∗ rPt c 2 1 (recvB m c) ∗ (∃ f, oPt c c 1 fullShare f) ∗ (∃ f, oPt (q 0 c) c 1 fullShare f) ∗ (∃ f, oPt (q 1 c) c 1 fullShare f)
          ∗ agTok c 0 1 ∗ agTok c 1 1 ∗ ow c 12)
        ∗ ((rPt c 1 1 (recvB m c) ∗ rPt c 2 1 (recvB m c) ∗ oPt c c 1 (Transfers.shareDrop fullShare 3) (outB m c) ∗ oPt c c 1 (lent 2) (outB m c)
              ∗ crd c (agS 0 1) ∗ crd c (agS 1 1) ∗ ow c 14) -∗ Q ⟨⟩))
      ⊢ wpc c (app (k0_part12 (F := F)) c v6 v10 v14 v349 (sum1 m c)) Q := by
  unfold app wpc
  simp only [k0_part12_eq_skeleton]; unfold k0_part12_skel
  simp only [Prog.lift, Prog.bind_op, Prog.bind_ret, Prog.pure_eq_ret]
  iintro ⟨#HR, ⟨Hr1, Hr2, ⟨%f, Ho⟩, Hp0, Hp1, Ht0, Ht1, HO⟩, Hk⟩
  iapply (wp_ld_slot m c 1 1) $$ Hr1; iintro Hr1
  iapply (wp_ld_slot m c 2 1) $$ Hr2; iintro Hr2
  unfold wpc
  iapply (wp_ld_rows c 1 (off5_eq c 1) f) $$ Ho; iintro Ho
  rw [show k0_pay26 (sum1 m c) (slot m c 1 1) (slot m c 2 1) = red m c 1 from rfl]
  iapply (wp_st_rows m c 1 (off5_eq c 1) f) $$ Ho; iintro Ho
  ihave Ho := (o_lend c 1 (outB m c)) $$ Ho
  icases Ho with ⟨Ho, Hl0, Hl1, Hl2⟩
  icases Ht0 with ⟨Hta, Htb⟩
  iapply (wp_ag m K c _ 0 1 (dev13_eq c) 12 rfl _ (rows1_eq c)) $$ [Hl0 Hp0 Hta Htb HO]
  · iframe HR Hl0 Hp0 Hta Htb HO
  iintro ⟨Hc0, HO⟩
  icases Ht1 with ⟨Hta, Htb⟩
  iapply (wp_ag m K c _ 1 1 (dev14_eq c) 13 rfl _ (rows1_eq c)) $$ [Hl1 Hp1 Hta Htb HO]
  · iframe HR Hl1 Hp1 Hta Htb HO
  iintro ⟨Hc1, HO⟩
  try unfold wpc
  rw [wp_ret]; imodintro
  iapply Hk
  iframe Hr1 Hr2 Ho Hl2 Hc0 Hc1 HO

/-- The last transfer starts, and the first three halves of the send buffer come back. -/
theorem part13 (c : Dev nD) (Q : PUnit → sProp 𝕄) :
    iprop(recs m K ∗ (oPt c c 1 (lent 2) (outB m c) ∗ (∃ f, oPt (q 2 c) c 1 fullShare f) ∗ agTok c 2 1 ∗ ow c 14
          ∗ rdy c (rsS 0 0) ∗ rdy c (rsS 0 1) ∗ rdy c (rsS 1 0))
        ∗ ((crd c (agS 2 1) ∗ ow c 15 ∗ sPt c 0 0 (sendB m c) ∗ sPt c 0 1 (sendB m c) ∗ sPt c 1 0 (sendB m c)
              ∗ shut c (rsS 0 0) ∗ shut c (rsS 0 1) ∗ shut c (rsS 1 0)) -∗ Q ⟨⟩))
      ⊢ wpc c (app (k0_part13 (F := F)) c) Q := by
  unfold app wpc
  simp only [k0_part13_eq_skeleton]; unfold k0_part13_skel
  simp only [Prog.lift, Prog.bind_op, Prog.bind_ret, Prog.pure_eq_ret]
  iintro ⟨#HR, ⟨Hl2, Hp2, Ht2, HO, Hw0, Hw1, Hw2⟩, Hk⟩
  icases Ht2 with ⟨Hta, Htb⟩
  iapply (wp_ag m K c _ 2 1 (dev15_eq c) 14 rfl _ (rows1_eq c)) $$ [Hl2 Hp2 Hta Htb HO]
  · iframe HR Hl2 Hp2 Hta Htb HO
  iintro ⟨Hc2, HO⟩
  iapply (wp_wait_rsS m K c 0 0) $$ [Hw0 HO]
  · icases Hw0 with ⟨Ha, Hb⟩
    iframe HR Ha Hb HO
  iintro ⟨Hr0, Hv0, HO⟩
  iapply (wp_wait_rsS m K c 0 1) $$ [Hw1 HO]
  · icases Hw1 with ⟨Ha, Hb⟩
    iframe HR Ha Hb HO
  iintro ⟨Hr1, Hv1, HO⟩
  iapply (wp_wait_rsS m K c 1 0) $$ [Hw2 HO]
  · icases Hw2 with ⟨Ha, Hb⟩
    iframe HR Ha Hb HO
  iintro ⟨Hr2, Hv2, HO⟩
  try unfold wpc
  rw [wp_ret]; imodintro
  iapply Hk
  iframe Hc2 HO Hr0 Hr1 Hr2 Hv0 Hv1 Hv2

/-- The other three halves come back. -/
theorem part14 (c : Dev nD) (Q : BitVec 32 → sProp 𝕄) :
    iprop(recs m K ∗ (ow c 15 ∗ rdy c (rsS 1 1) ∗ rdy c (rsS 2 0) ∗ rdy c (rsS 2 1))
        ∗ (∀ v, (ow c 15 ∗ sPt c 1 1 (sendB m c) ∗ sPt c 2 0 (sendB m c) ∗ sPt c 2 1 (sendB m c)
              ∗ shut c (rsS 1 1) ∗ shut c (rsS 2 0) ∗ shut c (rsS 2 1)) -∗ Q v))
      ⊢ wpc c (app (k0_part14 (F := F)) (vw c)) Q := by
  unfold app wpc
  simp only [k0_part14_eq_skeleton]; unfold k0_part14_skel
  simp only [Prog.lift, Prog.bind_op, Prog.bind_ret, Prog.pure_eq_ret]
  iintro ⟨#HR, ⟨HO, Hw0, Hw1, Hw2⟩, Hk⟩
  iapply (wp_wait_rsS m K c 1 1) $$ [Hw0 HO]
  · icases Hw0 with ⟨Ha, Hb⟩
    iframe HR Ha Hb HO
  iintro ⟨Hr0, Hv0, HO⟩
  iapply (wp_wait_rsS m K c 2 0) $$ [Hw1 HO]
  · icases Hw1 with ⟨Ha, Hb⟩
    iframe HR Ha Hb HO
  iintro ⟨Hr1, Hv1, HO⟩
  iapply (wp_wait_rsS m K c 2 1) $$ [Hw2 HO]
  · icases Hw2 with ⟨Ha, Hb⟩
    iframe HR Ha Hb HO
  iintro ⟨Hr2, Hv2, HO⟩
  try unfold wpc
  rw [wp_ret]; imodintro
  iapply Hk
  iframe HO Hr0 Hr1 Hr2 Hv0 Hv1 Hv2

/-- Three of the peers' half chunks of the result arrive. -/
theorem part15 (c : Dev nD) (v : BitVec 32) (Q : PUnit → sProp 𝕄) :
    iprop(recs m K ∗ (ow c 15 ∗ rdy c (agR 0 0) ∗ rdy c (agR 0 1) ∗ rdy c (agR 1 0))
        ∗ ((ow c 15 ∗ oPt c (q 0 c) 0 fullShare (outB m c) ∗ oPt c (q 0 c) 1 fullShare (outB m c) ∗ oPt c (q 1 c) 0 fullShare (outB m c)
              ∗ shut c (agR 0 0) ∗ shut c (agR 0 1) ∗ shut c (agR 1 0)) -∗ Q ⟨⟩))
      ⊢ wpc c (app (k0_part15 (F := F)) c (vw c) v) Q := by
  unfold app wpc
  simp only [k0_part15_eq_skeleton]; unfold k0_part15_skel
  simp only [Prog.lift, Prog.bind_op, Prog.bind_ret, Prog.pure_eq_ret]
  iintro ⟨#HR, ⟨HO, Hw0, Hw1, Hw2⟩, Hk⟩
  iapply (wp_wait_agR m K c 0 0) $$ [Hw0 HO]
  · icases Hw0 with ⟨Ha, Hb⟩
    iframe HR Ha Hb HO
  iintro ⟨Hr0, Hv0, HO⟩
  iapply (wp_wait_agR m K c 0 1) $$ [Hw1 HO]
  · icases Hw1 with ⟨Ha, Hb⟩
    iframe HR Ha Hb HO
  iintro ⟨Hr1, Hv1, HO⟩
  iapply (wp_wait_agR m K c 1 0) $$ [Hw2 HO]
  · icases Hw2 with ⟨Ha, Hb⟩
    iframe HR Ha Hb HO
  iintro ⟨Hr2, Hv2, HO⟩
  try unfold wpc
  rw [wp_ret]; imodintro
  iapply Hk
  iframe HO Hr0 Hr1 Hr2 Hv0 Hv1 Hv2

/-- The other three arrive, and the first lent share comes back. -/
theorem part16 (c : Dev nD) (Q : PUnit → sProp 𝕄) :
    iprop(recs m K ∗ (ow c 15 ∗ rdy c (agR 1 1) ∗ rdy c (agR 2 0) ∗ rdy c (agR 2 1) ∗ rdy c (agS 0 0))
        ∗ ((ow c 15 ∗ oPt c (q 1 c) 1 fullShare (outB m c) ∗ oPt c (q 2 c) 0 fullShare (outB m c) ∗ oPt c (q 2 c) 1 fullShare (outB m c)
              ∗ shut c (agR 1 1) ∗ shut c (agR 2 0) ∗ shut c (agR 2 1) ∗ oPt c c 0 (lent 0) (outB m c) ∗ shut c (agS 0 0)) -∗ Q ⟨⟩))
      ⊢ wpc c (app (k0_part16 (F := F)) c (vw c)) Q := by
  unfold app wpc
  simp only [k0_part16_eq_skeleton]; unfold k0_part16_skel
  simp only [Prog.lift, Prog.bind_op, Prog.bind_ret, Prog.pure_eq_ret]
  iintro ⟨#HR, ⟨HO, Hw0, Hw1, Hw2, Hw3⟩, Hk⟩
  iapply (wp_wait_agR m K c 1 1) $$ [Hw0 HO]
  · icases Hw0 with ⟨Ha, Hb⟩
    iframe HR Ha Hb HO
  iintro ⟨Hr0, Hv0, HO⟩
  iapply (wp_wait_agR m K c 2 0) $$ [Hw1 HO]
  · icases Hw1 with ⟨Ha, Hb⟩
    iframe HR Ha Hb HO
  iintro ⟨Hr1, Hv1, HO⟩
  iapply (wp_wait_agR m K c 2 1) $$ [Hw2 HO]
  · icases Hw2 with ⟨Ha, Hb⟩
    iframe HR Ha Hb HO
  iintro ⟨Hr2, Hv2, HO⟩
  iapply (wp_wait_agS m K c 0 0) $$ [Hw3 HO]
  · icases Hw3 with ⟨Ha, Hb⟩
    iframe HR Ha Hb HO
  iintro ⟨Hl, Hv3, HO⟩
  try unfold wpc
  rw [wp_ret]; imodintro
  iapply Hk
  iframe HO Hr0 Hr1 Hr2 Hv0 Hv1 Hv2 Hl Hv3

end Parts

end Cert.Moe

end
-- ==== Proof.Body.lean ====
/-
# The expert layer on four devices: the whole body
-/
module

public import proofs.«01_k».proof.Proof.PartsB

@[expose] public section

set_option maxRecDepth 16384

noncomputable section

namespace Cert.Moe

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- One resource for each peer and each half. -/
abbrev six (Φ : Fin 3 → Fin 2 → sProp 𝕄) : sProp 𝕄 := iprop(Φ 0 0 ∗ Φ 0 1 ∗ Φ 1 0 ∗ Φ 1 1 ∗ Φ 2 0 ∗ Φ 2 1)

/-- The tokens a device pays with. -/
def toks (c : Dev nD) : sProp 𝕄 :=
  iprop((dutyTok ER (barC (q 0 c)) 0 (rev 0) ∗ dutyTok ER (barC (q 1 c)) 0 (rev 1) ∗ dutyTok ER (barC (q 2 c)) 0 (rev 2))
    ∗ ptk c (inS 0) ∗ ptk c (inS 1) ∗ six (rsTok c) ∗ six (agTok c))
/-- Its places in its cells' rounds. -/
def places (c : Dev nD) : sProp 𝕄 :=
  iprop(atPos ER (barC c) 0 ∅ 0 ∗ wtk c (inS 0) ∗ wtk c (inS 1) ∗ six (fun k h => wtk c (rsS k h)) ∗ six (fun k h => wtk c (rsR k h))
    ∗ six (fun k h => wtk c (agS k h)) ∗ six (fun k h => wtk c (agR k h)))
/-- The credits for what its peers owe it. -/
def creds (c : Dev nD) : sProp 𝕄 :=
  iprop(cred (tallyAt (barC c) () 3) ∗ six (fun k h => crd c (rsR k h)) ∗ six (fun k h => crd c (agR k h)))
/-- Its cells at the end, all at zero. -/
def shuts (c : Dev nD) : sProp 𝕄 :=
  iprop(shut c (inS 0) ∗ shut c (inS 1) ∗ six (fun k h => shut c (rsS k h)) ∗ six (fun k h => shut c (rsR k h))
    ∗ six (fun k h => shut c (agS k h)) ∗ six (fun k h => shut c (agR k h)))
/-- The scratch buffers, at whatever they hold. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)
    ∗ (∃ f, ((c : Thread nD τ).loc cc0_scratch4) ↦{fullShare} f) ∗ (∃ f, ((c : Thread nD τ).loc cc0_scratch5) ↦{fullShare} f))
/-- The two arguments the body reads in place. -/
def hbmArgs (c : Dev nD) : sProp 𝕄 :=
  iprop((((c : Thread nD τ).loc main_arg0) ↦{fullShare} m ((c : Thread nD τ).loc main_arg0)) ∗ (((c : Thread nD τ).loc main_arg3) ↦{fullShare} m ((c : Thread nD τ).loc main_arg3)))

/-- The result's staging buffer, whole again. -/
theorem out_whole (c : Dev nD) :
    iprop(oPt c c 0 fullShare (outB m c) ∗ oPt c c 1 fullShare (outB m c) ∗ six (fun k h => oPt c (q k c) h fullShare (outB m c)))
      ⊢ (((c : Thread nD τ).loc cc0_stg2_0) ↦{fullShare} outB m c : sProp 𝕄) := by
  rw [o_chunks]
  iintro ⟨Ha, Hb, H00, H01, H10, H11, H20, H21⟩
  iframe Ha Hb H00 H01 H10 H11 H20 H21
/-- The send buffer, whole again. -/
theorem send_whole (c : Dev nD) :
    six (fun k h => sPt c k h (sendB m c)) ⊢ (iprop(∃ f, ((c : Thread nD τ).loc cc0_scratch4) ↦{fullShare} f) : sProp 𝕄) := by
  iintro ⟨H00, H01, H10, H11, H20, H21⟩
  iexists sendB m c
  rw [s_slabs, s_halves, s_halves, s_halves]
  iframe H00 H01 H10 H11 H20 H21
/-- The landing buffer, whole again. -/
theorem recv_whole (c : Dev nD) :
    six (fun k h => rPt c k h (recvB m c)) ⊢ (iprop(∃ f, ((c : Thread nD τ).loc cc0_scratch5) ↦{fullShare} f) : sProp 𝕄) := by
  iintro ⟨H00, H01, H10, H11, H20, H21⟩
  iexists recvB m c
  rw [r_slabs, r_halves, r_halves, r_halves]
  iframe H00 H01 H10 H11 H20 H21

section Whole
variable (K : Dev nD × Fin 27 → ℕ)

set_option maxHeartbeats 2000000 in
/-- The whole body on device `c`. -/
theorem body (c : Dev nD) (Q : PUnit → sProp 𝕄) :
    iprop(recs m K ∗ (ow c 0 ∗ hbmArgs m c ∗ scratch c ∗ atP m c ∗ atI m c ∗ (∃ f, ((c : Thread nD τ).loc cc0_stg2_0) ↦{fullShare} f)
          ∗ toks c ∗ places c ∗ creds c)
        ∗ ((ow c 15 ∗ hbmArgs m c ∗ scratch c ∗ atP m c ∗ atI m c ∗ (((c : Thread nD τ).loc cc0_stg2_0) ↦{fullShare} outB m c)
              ∗ shuts c ∗ semVal (barC c) 0) -∗ Q ⟨⟩))
      ⊢ wpc c (app (cc0_body (F := F))) Q := by
  unfold app wpc
  simp only [cc0_body_eq_skeleton]; unfold cc0_body_skel
  simp only [k0_part17_eq_skeleton]; unfold k0_part17_skel
  unfold hbmArgs scratch toks places creds shuts six
  iintro ⟨#HR, ⟨HO, ⟨Ha, Hg⟩, ⟨Hx, He, Hb, Hw, ⟨%fs, Hs⟩, ⟨%fr, Hr⟩⟩, HP, HI, ⟨%fo, Ho⟩, ⟨⟨Tb0, Tb1, Tb2⟩, Ti0, Ti1, ⟨Tr00, Tr01, Tr10, Tr11, Tr20, Tr21⟩, ⟨Ta00, Ta01, Ta10, Ta11, Ta20, Ta21⟩⟩,
    ⟨Wb, Wi0, Wi1, ⟨Ws00, Ws01, Ws10, Ws11, Ws20, Ws21⟩, ⟨Wr00, Wr01, Wr10, Wr11, Wr20, Wr21⟩, ⟨Wt00, Wt01, Wt10, Wt11, Wt20, Wt21⟩, ⟨Wa00, Wa01, Wa10, Wa11, Wa20, Wa21⟩⟩, ⟨Cb, ⟨Cr00, Cr01, Cr10, Cr11, Cr20, Cr21⟩, ⟨Ca00, Ca01, Ca10, Ca11, Ca20, Ca21⟩⟩⟩, Hk⟩
  ihave Hs := (Entails.of_eq (s_slabs c fs)) $$ Hs
  icases Hs with ⟨Hs0, Hs1, Hs2⟩
  ihave Hr := (Entails.of_eq (r_slabs c fr)) $$ Hr
  icases Hr with ⟨Hr0, Hr1, Hr2⟩
  ihave Ho := (Entails.of_eq (o_chunks c fo)) $$ Ho
  icases Ho with ⟨⟨Ho0, Ho1⟩, Hp0, Hp1, Hp2⟩
  rw [wp_bind]
  rw [wp_bind]
  iapply (part1 m K c _)
  isplitr; · iexact HR
  isplitl [HO Ha Hg Hx He Ti0 Ti1 Hr0 Hr1 Hr2 Hp0 Hp1 Hp2 Tb0 Tb1 Tb2]
  · isplitl [HO]; · iexact HO
    isplitl [Ha]; · iexact Ha
    isplitl [Hg]; · iexact Hg
    isplitl [Hx]; · iexact Hx
    isplitl [He]; · iexact He
    isplitl [Ti0]; · iexact Ti0
    isplitl [Ti1]; · iexact Ti1
    isplitl [Hr0 Hp0 Tb0]
    · isplitl [Hr0]; · iexists _; iexact Hr0
      isplitl [Hp0]; · iexists _; iexact Hp0
      iexact Tb0
    isplitl [Hr1 Hp1 Tb1]
    · isplitl [Hr1]; · iexists _; iexact Hr1
      isplitl [Hp1]; · iexists _; iexact Hp1
      iexact Tb1
    isplitl [Hr2]; · iexists _; iexact Hr2
    isplitl [Hp2]; · iexists _; iexact Hp2
    iexact Tb2
  iintro ⟨Ci0, Ci1, HO⟩
  try dsimp only
  rw [wp_bind]
  iapply (part2 m K c _)
  isplitr; · iexact HR
  isplitl [Wi0 Ci0 HO HP HI]
  · iframe Wi0 Ci0 HO HP HI
  iintro ⟨Hx, Vi0, HO, HP, HI⟩
  unfold in0Pay
  icases Hx with ⟨Hx, Ha⟩
  try dsimp only
  rw [wp_bind]
  iapply (part3 m K c _)
  isplitr; · iexact HR
  isplitl [Hw Wi1 Ci1 HO]
  · iframe Hw Wi1 Ci1 HO
  iintro ⟨Hw, He, Vi1, HO⟩
  unfold in1Pay
  icases He with ⟨He, Hg⟩
  try dsimp only
  rw [wp_bind]
  iapply (part4 m K c _ _)
  isplitr; · iexact HR
  isplitl [He Hb Hx Hw Hs0 Wb Cb HO]
  · isplitl [He]; · iexact He
    isplitl [Hb]; · iexact Hb
    isplitl [Hx]; · iexact Hx
    isplitl [Hw]; · iexact Hw
    isplitl [Hs0]; · iexists _; iexact Hs0
    isplitl [Wb]; · iexact Wb
    isplitl [Cb]; · iexact Cb
    iexact HO
  iintro ⟨He, Hb, Hx, Hw, Hs0, B0, B1, B2, Vb, HO⟩
  unfold barPay
  icases B0 with ⟨Q00, Q01, O00, O01⟩
  icases B1 with ⟨Q10, Q11, O10, O11⟩
  icases B2 with ⟨Q20, Q21, O20, O21⟩
  try dsimp only
  rw [wp_bind]
  iapply (part5 m K c _ _ _ _)
  isplitr; · iexact HR
  isplitl [Hs0 Q00 Q01 Tr00 Tr01 HO Hx Hw]
  · iframe Hs0 Q00 Q01 Tr00 Tr01 HO Hx Hw
  iintro ⟨Cs00, Cs01, HO, Hx, Hw⟩
  try dsimp only
  rw [wp_bind]
  iapply (part6 m K c _ _ _)
  isplitr; · iexact HR
  isplitl [Hs1 Q10 Q11 Tr10 Tr11 HO Hx]
  · isplitl [Hs1]; · iexists _; iexact Hs1
    iframe Q10 Q11 Tr10 Tr11 HO Hx
  iintro ⟨Cs10, Cs11, HO, Hx⟩
  try dsimp only
  rw [wp_bind]
  iapply (part7 m K c _ _)
  isplitr; · iexact HR
  isplitl [Hw Hs2 Q20 Tr20 HO]
  · isplitl [Hw]; · iexact Hw
    isplitl [Hs2]; · iexists _; iexact Hs2
    iframe Q20 Tr20 HO
  iintro ⟨Hw, Hs21, Cs20, HO⟩
  try dsimp only
  rw [wp_bind]
  iapply (part8 m K c _)
  isplitr; · iexact HR
  isplitl [Hs21 Q21 Tr21 HO Hx Hw]
  · iframe Hs21 Q21 Tr21 HO Hx Hw
  iintro ⟨Cs21, HO, Hx, Hw⟩
  try dsimp only
  rw [wp_bind]
  iapply (part9 m K c _)
  isplitr; · iexact HR
  isplitl [Wr00 Cr00 Wr10 Cr10 Wr20 Cr20 HO]
  · iframe Wr00 Cr00 Wr10 Cr10 Wr20 Cr20 HO
  iintro ⟨R00, R10, R20, Vr00, Vr10, Vr20, HO⟩
  try dsimp only
  rw [wp_bind]
  iapply (part10 m K c _ _ _ _ _)
  isplitr; · iexact HR
  isplitl [Ho0 O00 O10 O20 Ta00 Ta10 Ta20 HO]
  · isplitl [Ho0]; · iexists _; iexact Ho0
    iframe O00 O10 O20 Ta00 Ta10 Ta20 HO
  iintro ⟨Ho0, Ct00, Ct10, Ct20, HO⟩
  try dsimp only
  rw [wp_bind]
  iapply (part11 m K c _ _)
  isplitr; · iexact HR
  isplitl [Wr01 Cr01 Wr11 Cr11 Wr21 Cr21 HO]
  · iframe Wr01 Cr01 Wr11 Cr11 Wr21 Cr21 HO
  iintro ⟨R01, R11, R21, Vr01, Vr11, Vr21, HO⟩
  try dsimp only
  rw [wp_bind]
  iapply (part12 m K c _ _ _ _ _)
  isplitr; · iexact HR
  isplitl [R11 R21 Ho1 O01 O11 Ta01 Ta11 HO]
  · isplitl [R11]; · iexact R11
    isplitl [R21]; · iexact R21
    isplitl [Ho1]; · iexists _; iexact Ho1
    iframe O01 O11 Ta01 Ta11 HO
  iintro ⟨R11, R21, Ho1, Hl21, Ct01, Ct11, HO⟩
  try dsimp only
  rw [wp_bind]
  iapply (part13 m K c _)
  isplitr; · iexact HR
  isplitl [Hl21 O21 Ta21 HO Ws00 Cs00 Ws01 Cs01 Ws10 Cs10]
  · iframe Hl21 O21 Ta21 HO Ws00 Cs00 Ws01 Cs01 Ws10 Cs10
  iintro ⟨Ct21, HO, S00, S01, S10, Vs00, Vs01, Vs10⟩
  try dsimp only
  rw [wp_bind]
  iapply (part14 m K c _)
  isplitr; · iexact HR
  isplitl [HO Ws11 Cs11 Ws20 Cs20 Ws21 Cs21]
  · iframe HO Ws11 Cs11 Ws20 Cs20 Ws21 Cs21
  iintro %v ⟨HO, S11, S20, S21, Vs11, Vs20, Vs21⟩
  try dsimp only
  rw [wp_bind]
  iapply (part15 m K c _ _)
  isplitr; · iexact HR
  isplitl [HO Wa00 Ca00 Wa01 Ca01 Wa10 Ca10]
  · iframe HO Wa00 Ca00 Wa01 Ca01 Wa10 Ca10
  iintro ⟨HO, P00, P01, P10, Va00, Va01, Va10⟩
  try dsimp only
  rw [wp_bind]
  iapply (part16 m K c _)
  isplitr; · iexact HR
  isplitl [HO Wa11 Ca11 Wa20 Ca20 Wa21 Ca21 Wt00 Ct00]
  · iframe HO Wa11 Ca11 Wa20 Ca20 Wa21 Ca21 Wt00 Ct00
  iintro ⟨HO, P11, P20, P21, Va11, Va20, Va21, L00, Vt00⟩
  try dsimp only
  simp only [Prog.lift, Prog.bind_op, Prog.bind_ret, Prog.pure_eq_ret]
  iapply (wp_wait_agS m K c 1 0) $$ [Wt10 Ct10 HO]
  · iframe HR Wt10 Ct10 HO
  iintro ⟨L10, Vt10, HO⟩
  iapply (wp_wait_agS m K c 2 0) $$ [Wt20 Ct20 HO]
  · iframe HR Wt20 Ct20 HO
  iintro ⟨L20, Vt20, HO⟩
  iapply (wp_wait_agS m K c 0 1) $$ [Wt01 Ct01 HO]
  · iframe HR Wt01 Ct01 HO
  iintro ⟨L01, Vt01, HO⟩
  iapply (wp_wait_agS m K c 1 1) $$ [Wt11 Ct11 HO]
  · iframe HR Wt11 Ct11 HO
  iintro ⟨L11, Vt11, HO⟩
  try unfold wpc
  rw [wp_ret]; imodintro
  iapply (wp_wait_agS m K c 2 1) $$ [Wt21 Ct21 HO]
  · iframe HR Wt21 Ct21 HO
  iintro ⟨L21, Vt21, HO⟩
  try unfold wpc
  rw [wp_ret]; imodintro
  ihave Ho0 := (o_unlend c 0 (outB m c)) $$ [Ho0 L00 L10 L20]
  · iframe Ho0 L00 L10 L20
  ihave Ho1 := (o_unlend c 1 (outB m c)) $$ [Ho1 L01 L11 L21]
  · iframe Ho1 L01 L11 L21
  ihave Ho := (out_whole m c) $$ [Ho0 Ho1 P00 P01 P10 P11 P20 P21]
  · iframe Ho0 Ho1 P00 P01 P10 P11 P20 P21
  ihave Hs := (send_whole m c) $$ [S00 S01 S10 S11 S20 S21]
  · iframe S00 S01 S10 S11 S20 S21
  ihave Hr := (recv_whole m c) $$ [R00 R01 R10 R11 R20 R21]
  · iframe R00 R01 R10 R11 R20 R21
  iapply Hk
  isplitl [HO]; · iexact HO
  isplitl [Ha Hg]; · iframe Ha Hg
  isplitl [Hx He Hb Hw Hs Hr]
  · isplitl [Hx]; · iexists _; iexact Hx
    isplitl [He]; · iexists _; iexact He
    isplitl [Hb]; · iexists _; iexact Hb
    isplitl [Hw]; · iexists _; iexact Hw
    iframe Hs Hr
  isplitl [HP]; · iexact HP
  isplitl [HI]; · iexact HI
  isplitl [Ho]; · iexact Ho
  isplitl [Vi0 Vi1 Vs00 Vs01 Vs10 Vs11 Vs20 Vs21 Vr00 Vr01 Vr10 Vr11 Vr20 Vr21 Vt00 Vt01 Vt10 Vt11 Vt20 Vt21 Va00 Va01 Va10 Va11 Va20 Va21]
  · iframe Vi0 Vi1 Vs00 Vs01 Vs10 Vs11 Vs20 Vs21 Vr00 Vr01 Vr10 Vr11 Vr20 Vr21 Vt00 Vt01 Vt10 Vt11 Vt20 Vt21 Va00 Va01 Va10 Va11 Va20 Va21
  iexact Vb

end Whole

end Cert.Moe

end
-- ==== Proof.Deal.lean ====
/-
# The expert layer on four devices: what the launch deals to each device
-/
module

public import proofs.«01_k».proof.Proof.Body

@[expose] public section

set_option maxRecDepth 16384

noncomputable section

namespace Cert.Moe

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families of six cells -/

/-- A family over peers and halves, conjoined peer by peer, is the six of them. -/
theorem six_eq (Φ : Fin 3 → Fin 2 → sProp 𝕄) : (bigSep Finset.univ fun k : Fin 3 => iprop(Φ k 0 ∗ Φ k 1)) ⊢ six Φ := by
  rw [bigSep3 (fun k : Fin 3 => iprop(Φ k 0 ∗ Φ k 1))]
  unfold six
  iintro ⟨⟨H00, H01⟩, ⟨H10, H11⟩, H20, H21⟩
  iframe H00 H01 H10 H11 H20 H21
theorem eq_six (Φ : Fin 3 → Fin 2 → sProp 𝕄) : six Φ ⊢ (bigSep Finset.univ fun k : Fin 3 => iprop(Φ k 0 ∗ Φ k 1)) := by
  rw [bigSep3 (fun k : Fin 3 => iprop(Φ k 0 ∗ Φ k 1))]
  unfold six
  iintro ⟨H00, H01, H10, H11, H20, H21⟩
  iframe H00 H01 H10 H11 H20 H21

/-- A family over devices and peers, dealt to the other end of each pair. -/
theorem dealt (Ψ : Dev nD → Fin 3 → sProp 𝕄) :
    (bigSep Finset.univ fun c : Dev nD => bigSep Finset.univ fun k : Fin 3 => Ψ c k)
      = bigSep Finset.univ fun c : Dev nD => bigSep Finset.univ fun k : Fin 3 => Ψ (q k c) (rev k) := by
  rw [← bigSep_univ_prod (fun p : Dev nD × Fin 3 => Ψ p.1 p.2), bigSep_univ_equiv swap (fun p : Dev nD × Fin 3 => Ψ p.1 p.2),
    ← bigSep_univ_prod (fun p : Dev nD × Fin 3 => Ψ (q p.2 p.1) (rev p.2))]
  rfl

/-! ## The cells and the tokens as minted -/

/-- The cells of the kernel's own, as the launch lists them. -/
abbrev osem (i : Fin 26) : SemLoc sig := .dma ⟨i.val + 3, by have := i.isLt; show _ < 29; omega⟩

theorem csem_injective : Function.Injective csem := by
  intro a b h
  unfold csem at h
  split at h <;> split at h
  · exact Fin.ext (by omega)
  · cases h
  · cases h
  · have e := congrArg Fin.val (SemLoc.dma.inj h)
    dsimp only at e
    exact Fin.ext (by omega)
theorem kcell_injective : Function.Injective (kcell : Dev nD × Fin 27 → GSem nD τ sig) := by
  rintro ⟨c, i⟩ ⟨c', i'⟩ h
  have h1 : c = c' := congrArg (fun g : GSem nD τ sig => g.1.1) h
  subst h1
  exact Prod.ext rfl (csem_injective (congrArg Prod.snd h))
def allCells : Finset (GSem nD τ sig) := Finset.univ.map ⟨kcell, kcell_injective⟩

/-- The tokens of a device's own cells: the barrier's three duties, then one for each DMA cell. -/
def tokOf (ci : Dev nD × Fin 29) : GSem nD τ sig × ℕ × Fin 3 :=
  if h : ci.2.val < 3 then (barC ci.1, 0, ⟨ci.2.val, h⟩) else (dmaC ci.1 ci.2, 0, 0)
theorem tokOf_injective : Function.Injective tokOf := by
  rintro ⟨c, i⟩ ⟨c', i'⟩ h
  have h1 : c = c' := by
    have e := congrArg (fun x : GSem nD τ sig × ℕ × Fin 3 => x.1.1.1) h
    unfold tokOf at e
    dsimp only at e
    split at e <;> split at e <;> exact e
  subst h1
  refine Prod.ext rfl ?_
  unfold tokOf at h
  dsimp only at h
  split at h <;> split at h
  · have e := congrArg (fun x : GSem nD τ sig × ℕ × Fin 3 => x.2.2.val) h
    exact Fin.ext e
  · have e := congrArg (fun x : GSem nD τ sig × ℕ × Fin 3 => x.1.2) h
    cases e
  · have e := congrArg (fun x : GSem nD τ sig × ℕ × Fin 3 => x.1.2) h
    cases e
  · have e := congrArg (fun x : GSem nD τ sig × ℕ × Fin 3 => x.1.2) h
    exact SemLoc.dma.inj e
def allToks : Finset (GSem nD τ sig × ℕ × Fin 3) := Finset.univ.map ⟨tokOf, tokOf_injective⟩

/-- What the launch starts from: the staging pipeline's cells and tokens, and the kernel's own. -/
def u₀ : UU :=
  (initOf (Pipeline.cells cfgs cellOf_inj) (Pipeline.launchToks cfgs cellOf_inj), initOf allCells allToks)

/-- The tokens of device `c`'s own cells. -/
def ownToks (c : Dev nD) : sProp 𝕄 :=
  iprop((bigSep Finset.univ fun j : Fin 3 => dutyTok ER (barC c) 0 j) ∗ ptk c (inS 0) ∗ ptk c (inS 1)
    ∗ six (fun k h => ptk c (rsS k h)) ∗ six (fun k h => ptk c (rsR k h)) ∗ six (fun k h => ptk c (agS k h)) ∗ six (fun k h => ptk c (agR k h)))

theorem rsS_ge (k : Fin 3) (h : Fin 2) : 3 ≤ (rsS k h).val := by show 3 ≤ 5 + _; omega
theorem rsR_ge (k : Fin 3) (h : Fin 2) : 3 ≤ (rsR k h).val := by show 3 ≤ 11 + _; omega
theorem agS_ge (k : Fin 3) (h : Fin 2) : 3 ≤ (agS k h).val := by show 3 ≤ 17 + _; omega
theorem agR_ge (k : Fin 3) (h : Fin 2) : 3 ≤ (agR k h).val := by show 3 ≤ 23 + _; omega
theorem bigSep27 (Φ : Fin 27 → sProp 𝕄) : bigSep Finset.univ Φ = iprop(Φ 0 ∗ Φ (ix (inS 0)) ∗ Φ (ix (inS 1)) ∗ Φ (ix (rsS 0 0)) ∗ Φ (ix (rsS 0 1)) ∗ Φ (ix (rsS 1 0)) ∗ Φ (ix (rsS 1 1)) ∗ Φ (ix (rsS 2 0)) ∗ Φ (ix (rsS 2 1)) ∗ Φ (ix (rsR 0 0)) ∗ Φ (ix (rsR 0 1)) ∗ Φ (ix (rsR 1 0)) ∗ Φ (ix (rsR 1 1)) ∗ Φ (ix (rsR 2 0)) ∗ Φ (ix (rsR 2 1)) ∗ Φ (ix (agS 0 0)) ∗ Φ (ix (agS 0 1)) ∗ Φ (ix (agS 1 0)) ∗ Φ (ix (agS 1 1)) ∗ Φ (ix (agS 2 0)) ∗ Φ (ix (agS 2 1)) ∗ Φ (ix (agR 0 0)) ∗ Φ (ix (agR 0 1)) ∗ Φ (ix (agR 1 0)) ∗ Φ (ix (agR 1 1)) ∗ Φ (ix (agR 2 0)) ∗ Φ (ix (agR 2 1))) :=
  bigSep_univ_eq_bigSepL [0, ix (inS 0), ix (inS 1), ix (rsS 0 0), ix (rsS 0 1), ix (rsS 1 0), ix (rsS 1 1), ix (rsS 2 0), ix (rsS 2 1), ix (rsR 0 0), ix (rsR 0 1), ix (rsR 1 0), ix (rsR 1 1), ix (rsR 2 0), ix (rsR 2 1), ix (agS 0 0), ix (agS 0 1), ix (agS 1 0), ix (agS 1 1), ix (agS 2 0), ix (agS 2 1), ix (agR 0 0), ix (agR 0 1), ix (agR 1 0), ix (agR 1 1), ix (agR 2 0), ix (agR 2 1)] (by decide) (by decide) Φ
/-- A device's twenty-seven cells one by one. -/
theorem cells_list (Φ : Fin 27 → sProp 𝕄) (Ψ : SemLoc sig → sProp 𝕄) (h : ∀ i, Φ i = Ψ (csem i)) :
    bigSep Finset.univ Φ ⊢ iprop(Ψ (.reg barS) ∗ Ψ (.dma (inS 0)) ∗ Ψ (.dma (inS 1)) ∗ six (fun k h => Ψ (.dma (rsS k h))) ∗ six (fun k h => Ψ (.dma (rsR k h)))
      ∗ six (fun k h => Ψ (.dma (agS k h))) ∗ six (fun k h => Ψ (.dma (agR k h)))) := by
  obtain rfl : Φ = fun i => Ψ (csem i) := funext h
  rw [bigSep27]
  simp only [csem_ix (inS 0) (by decide), csem_ix (inS 1) (by decide), csem_ix (rsS _ _) (rsS_ge _ _), csem_ix (rsR _ _) (rsR_ge _ _),
    csem_ix (agS _ _) (agS_ge _ _), csem_ix (agR _ _) (agR_ge _ _)]
  rw [show csem 0 = .reg barS from rfl]
  unfold six
  iintro ⟨H0, H1, H2, H3, H4, H5, H6, H7, H8, H9, H10, H11, H12, H13, H14, H15, H16, H17, H18, H19, H20, H21, H22, H23, H24, H25, H26⟩
  isplitl [H0]; · iexact H0
  isplitl [H1]; · iexact H1
  isplitl [H2]; · iexact H2
  isplitl [H3 H4 H5 H6 H7 H8]
  · iframe H3 H4 H5 H6 H7 H8
  isplitl [H9 H10 H11 H12 H13 H14]
  · iframe H9 H10 H11 H12 H13 H14
  isplitl [H15 H16 H17 H18 H19 H20]
  · iframe H15 H16 H17 H18 H19 H20
  iframe H21 H22 H23 H24 H25 H26

theorem bigSep29 (Φ : Fin 29 → sProp 𝕄) : bigSep Finset.univ Φ = iprop(Φ 0 ∗ Φ 1 ∗ Φ 2 ∗ Φ (inS 0) ∗ Φ (inS 1) ∗ Φ (rsS 0 0) ∗ Φ (rsS 0 1) ∗ Φ (rsS 1 0) ∗ Φ (rsS 1 1) ∗ Φ (rsS 2 0) ∗ Φ (rsS 2 1) ∗ Φ (rsR 0 0) ∗ Φ (rsR 0 1) ∗ Φ (rsR 1 0) ∗ Φ (rsR 1 1) ∗ Φ (rsR 2 0) ∗ Φ (rsR 2 1) ∗ Φ (agS 0 0) ∗ Φ (agS 0 1) ∗ Φ (agS 1 0) ∗ Φ (agS 1 1) ∗ Φ (agS 2 0) ∗ Φ (agS 2 1) ∗ Φ (agR 0 0) ∗ Φ (agR 0 1) ∗ Φ (agR 1 0) ∗ Φ (agR 1 1) ∗ Φ (agR 2 0) ∗ Φ (agR 2 1)) :=
  bigSep_univ_eq_bigSepL [0, 1, 2, inS 0, inS 1, rsS 0 0, rsS 0 1, rsS 1 0, rsS 1 1, rsS 2 0, rsS 2 1, rsR 0 0, rsR 0 1, rsR 1 0, rsR 1 1, rsR 2 0, rsR 2 1, agS 0 0, agS 0 1, agS 1 0, agS 1 1, agS 2 0, agS 2 1, agR 0 0, agR 0 1, agR 1 0, agR 1 1, agR 2 0, agR 2 1] (by decide) (by decide) Φ
theorem tokOf_dma (c : Dev nD) (p : DmaSem sig) (hp : 3 ≤ p.val) : tokOf (c, p) = (dmaC c p, 0, 0) := by
  unfold tokOf; exact dif_neg (by show ¬ p.val < 3; omega)
/-- A device's twenty-nine tokens one by one. -/
theorem toks_list (c : Dev nD) (Ψ : GSem nD τ sig × ℕ × Fin 3 → sProp 𝕄) :
    (bigSep Finset.univ fun i : Fin 29 => Ψ (tokOf (c, i)))
      ⊢ iprop((bigSep Finset.univ fun j : Fin 3 => Ψ (barC c, 0, j)) ∗ Ψ (dmaC c (inS 0), 0, 0) ∗ Ψ (dmaC c (inS 1), 0, 0)
        ∗ six (fun k h => Ψ (dmaC c (rsS k h), 0, 0)) ∗ six (fun k h => Ψ (dmaC c (rsR k h), 0, 0))
        ∗ six (fun k h => Ψ (dmaC c (agS k h), 0, 0)) ∗ six (fun k h => Ψ (dmaC c (agR k h), 0, 0))) := by
  rw [bigSep29, bigSep3]
  simp only [tokOf_dma c (inS 0) (by decide), tokOf_dma c (inS 1) (by decide), tokOf_dma c (rsS _ _) (rsS_ge _ _), tokOf_dma c (rsR _ _) (rsR_ge _ _),
    tokOf_dma c (agS _ _) (agS_ge _ _), tokOf_dma c (agR _ _) (agR_ge _ _)]
  rw [show tokOf (c, 0) = (barC c, 0, 0) from rfl, show tokOf (c, 1) = (barC c, 0, 1) from rfl, show tokOf (c, 2) = (barC c, 0, 2) from rfl]
  unfold six
  iintro ⟨H0, H1, H2, H3, H4, H5, H6, H7, H8, H9, H10, H11, H12, H13, H14, H15, H16, H17, H18, H19, H20, H21, H22, H23, H24, H25, H26, H27, H28⟩
  isplitl [H0 H1 H2]
  · iframe H0 H1 H2
  isplitl [H3]; · iexact H3
  isplitl [H4]; · iexact H4
  isplitl [H5 H6 H7 H8 H9 H10]
  · iframe H5 H6 H7 H8 H9 H10
  isplitl [H11 H12 H13 H14 H15 H16]
  · iframe H11 H12 H13 H14 H15 H16
  isplitl [H17 H18 H19 H20 H21 H22]
  · iframe H17 H18 H19 H20 H21 H22
  iframe H23 H24 H25 H26 H27 H28

/-! ## From the launch's element to the devices -/

/-- What the launch's element deals device `c`: its cells' rounds, its places in them, its own tokens. -/
def G (c : Dev nD) : sProp 𝕄 :=
  iprop((bigSep Finset.univ fun i : Fin 27 => roundState ER (rd m) (kcell (c, i)) 0)
    ∗ (bigSep Finset.univ fun i : Fin 27 => iprop(atPos ER (kcell (c, i)) 0 ∅ 0 ∗ reached ER (kcell (c, i)) 0)) ∗ ownToks c)

theorem fund_rounds : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : Fin 27 => Φ (kcell (c, i)) := by
    unfold allCells; rw [bigSep_map, bigSep_univ_prod]; rfl
  have hT : bigSep allToks (fun x => (dutyTok ER x.1 x.2.1 x.2.2 : sProp 𝕄)) ⊢ bigSep Finset.univ fun c : Dev nD => ownToks c := by
    unfold allToks; rw [bigSep_map, bigSep_univ_prod]
    exact bigSep_mono fun c _ => toks_list c (fun x => dutyTok ER x.1 x.2.1 x.2.2)
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-- The barrier semaphore is the one semaphore outside the kernel's scope. -/
theorem unscopedSems0_eq (c : Dev nD) : (unscopedSems0 c : sProp 𝕄) = semVal (barC c) 0 := by
  unfold unscopedSems0; rw [bigSep_eq_bigSepL_of_eq [SemLoc.reg barS] (by decide) (by decide)]; rfl

/-- Its cells, the barrier first. -/
theorem cells_split (Ψ : SemLoc sig → sProp 𝕄) :
    bigSep Finset.univ (fun i : Fin 27 => Ψ (csem i)) = iprop(Ψ (.reg barS) ∗ bigSep Finset.univ fun i : Fin 26 => Ψ (osem i)) := by
  rw [bigSep_univ_at _ (0 : Fin 27)]
  refine congrArg (fun X => iprop(Ψ (.reg barS) ∗ X)) ?_
  rw [show (Finset.univ.erase (0 : Fin 27)) = Finset.univ.map ⟨Fin.succ, Fin.succ_injective 26⟩ from by decide, bigSep_map]
  exact bigSep_congr fun i _ => congrArg Ψ (by
    unfold csem osem
    rw [dif_neg (show ¬ ((⟨Fin.succ, Fin.succ_injective 26⟩ : Fin 26 ↪ Fin 27) i).val = 0 from Nat.succ_ne_zero _)]; rfl)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (rd m) κ (kcell (c, i))))
          ∗ (bigSep Finset.univ fun i => iprop(atPos ER (kcell (c, i)) 0 ∅ 0 ∗ reached ER (kcell (c, i)) 0)) ∗ ownToks c) := by
  unfold G
  iintro ⟨Hos, Hus, Hst, Hat, Htok⟩
  ihave Hv := ((Entails.of_eq (cells_split fun sm => semVal ((c : Thread nD τ), sm) 0).symm)) $$ [Hos Hus]
  · rw [← unscopedSems0_eq]
    isplitl [Hus]; · iexact Hus
    unfold Pipeline.ownSems0
    iexact Hos
  imod (show iprop((bigSep Finset.univ fun i : Fin 27 => semVal (kcell (c, i)) 0) ∗ bigSep Finset.univ fun i : Fin 27 => roundState ER (rd m) (kcell (c, i)) 0)
      ⊢ (|={Set.univ}=> bigSep Finset.univ fun i => iprop(∃ κ : ℕ, cellInv ER (rd m) κ (kcell (c, i))) : sProp 𝕄) from by
        rw [← bigSep_sep']
        exact (bigSep_mono fun i _ => (Rounds.body_intro ER (rd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- What every device knows but the levels. -/
def marks (K : Dev nD × Fin 27 → ℕ) : sProp 𝕄 :=
  iprop((bigSep Finset.univ fun ck : Dev nD × Fin 27 => cellInv ER (rd m) (K ck) (kcell ck))
    ∗ bigSep Finset.univ fun ck : Dev nD × Fin 27 => reached ER (kcell ck) 0)
instance marks_persistent (K : Dev nD × Fin 27 → ℕ) : BI.Persistent (marks m K) := by unfold marks; infer_instance

/-- What the global step makes of it: what every device knows, the device's places, the tokens it pays with. -/
def G' (c : Dev nD) : sProp 𝕄 := iprop(∃ K, marks m K ∗ toks c ∗ places c)

/-- A device's own tokens, those its peers pay with set apart. -/
def before (c : Dev nD) : sProp 𝕄 :=
  iprop((bigSep Finset.univ fun k : Fin 3 => dutyTok ER (barC c) 0 k) ∗ (ptk c (inS 0) ∗ ptk c (inS 1) ∗ six (fun k h => ptk c (rsS k h)) ∗ six (fun k h => ptk c (agS k h)))
        ∗ (bigSep Finset.univ fun k : Fin 3 => iprop(ptk c (rsR k 0) ∗ ptk c (rsR k 1))) ∗ (bigSep Finset.univ fun k : Fin 3 => iprop(ptk c (agR k 0) ∗ ptk c (agR k 1))))
/-- The tokens a device pays with, those of its peers' cells set apart. -/
def after (c : Dev nD) : sProp 𝕄 :=
  iprop((bigSep Finset.univ fun k : Fin 3 => dutyTok ER (barC (q k c)) 0 (rev k)) ∗ (ptk c (inS 0) ∗ ptk c (inS 1) ∗ six (fun k h => ptk c (rsS k h)) ∗ six (fun k h => ptk c (agS k h)))
        ∗ (bigSep Finset.univ fun k : Fin 3 => iprop(ptk (q k c) (rsR (rev k) 0) ∗ ptk (q k c) (rsR (rev k) 1)))
        ∗ (bigSep Finset.univ fun k : Fin 3 => iprop(ptk (q k c) (agR (rev k) 0) ∗ ptk (q k c) (agR (rev k) 1))))
theorem before_intro (c : Dev nD) : ownToks c ⊢ (before c : sProp 𝕄) := by
  unfold before
  unfold ownToks
  iintro ⟨Hb, Hi0, Hi1, Hs, Hr, Ht, Ha⟩
  isplitl [Hb]; · iexact Hb
  isplitl [Hi0 Hi1 Hs Ht]
  · isplitl [Hi0]; · iexact Hi0
    isplitl [Hi1]; · iexact Hi1
    isplitl [Hs] <;> iassumption
  isplitl [Hr]
  · iapply (eq_six fun k h => ptk c (rsR k h)); iexact Hr
  iapply (eq_six fun k h => ptk c (agR k h)); iexact Ha

theorem after_elim (c : Dev nD) : (after c : sProp 𝕄) ⊢ toks c := by
  unfold after
  unfold toks
  rw [bigSep3]
  iintro ⟨Hb, ⟨Hi0, Hi1, Hs, Ht⟩, Hr, Ha⟩
  isplitl [Hb]; · iexact Hb
  isplitl [Hi0]; · iexact Hi0
  isplitl [Hi1]; · iexact Hi1
  ihave Hr := (six_eq fun k h => ptk (q k c) (rsR (rev k) h)) $$ Hr
  ihave Ha := (six_eq fun k h => ptk (q k c) (agR (rev k) h)) $$ Ha
  unfold six
  icases Hs with ⟨Hs00, Hs01, Hs10, Hs11, Hs20, Hs21⟩
  icases Hr with ⟨Hr00, Hr01, Hr10, Hr11, Hr20, Hr21⟩
  icases Ht with ⟨Ht00, Ht01, Ht10, Ht11, Ht20, Ht21⟩
  icases Ha with ⟨Ha00, Ha01, Ha10, Ha11, Ha20, Ha21⟩
  isplitl [Hs00 Hs01 Hs10 Hs11 Hs20 Hs21 Hr00 Hr01 Hr10 Hr11 Hr20 Hr21]
  · iframe Hs00 Hs01 Hs10 Hs11 Hs20 Hs21 Hr00 Hr01 Hr10 Hr11 Hr20 Hr21
  iframe Ht00 Ht01 Ht10 Ht11 Ht20 Ht21 Ha00 Ha01 Ha10 Ha11 Ha20 Ha21

/-- Four families conjoined, three of them replaced by equals. -/
theorem four_eq (A B C D A' C' D' : Dev nD → sProp 𝕄) (ha : bigSep Finset.univ A = bigSep Finset.univ A') (hc : bigSep Finset.univ C = bigSep Finset.univ C')
    (hd : bigSep Finset.univ D = bigSep Finset.univ D') :
    (bigSep Finset.univ fun c => iprop(A c ∗ B c ∗ C c ∗ D c)) = bigSep Finset.univ fun c => iprop(A' c ∗ B c ∗ C' c ∗ D' c) := by
  rw [bigSep_sep', bigSep_sep', bigSep_sep', bigSep_sep', bigSep_sep', bigSep_sep', ha, hc, hd]
/-- The tokens dealt to the devices that pay with them. -/
theorem toks_around : (bigSep Finset.univ fun c : Dev nD => (ownToks c : sProp 𝕄)) ⊢ bigSep Finset.univ fun c : Dev nD => toks c := by
  have hb := dealt (fun (c : Dev nD) (k : Fin 3) => (dutyTok ER (barC c) 0 k : sProp 𝕄))
  have hr := dealt (fun (c : Dev nD) (k : Fin 3) => (iprop(ptk c (rsR k 0) ∗ ptk c (rsR k 1)) : sProp 𝕄))
  have ha := dealt (fun (c : Dev nD) (k : Fin 3) => (iprop(ptk c (agR k 0) ∗ ptk c (agR k 1)) : sProp 𝕄))
  have e : (bigSep Finset.univ fun c : Dev nD => (before c : sProp 𝕄)) = bigSep Finset.univ fun c : Dev nD => after c := by
    exact four_eq _ _ _ _ _ _ _ hb hr ha
  exact (bigSep_mono fun c _ => before_intro c).trans ((Entails.of_eq e).trans (bigSep_mono fun c _ => after_elim c))

/-- A device's places one by one. -/
theorem places_intro (c : Dev nD) : (bigSep Finset.univ fun i : Fin 27 => (atPos ER (kcell (c, i)) 0 ∅ 0 : sProp 𝕄)) ⊢ places c :=
  cells_list _ (fun sm => atPos ER ((c : Thread nD τ), sm) 0 ∅ 0) (fun _ => rfl)
theorem all_places : (bigSep Finset.univ fun c : Dev nD => bigSep Finset.univ fun i : Fin 27 => (atPos ER (kcell (c, i)) 0 ∅ 0 : sProp 𝕄))
    ⊢ bigSep Finset.univ fun c : Dev nD => places c :=
  bigSep_mono fun c _ => places_intro c

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What every device knows, gathered; each device's places and tokens beside it. -/
theorem regroup :
    (bigSep Finset.univ fun c : Dev nD => iprop((bigSep Finset.univ fun i => iprop(∃ κ : ℕ, cellInv ER (rd m) κ (kcell (c, i))))
          ∗ (bigSep Finset.univ fun i => iprop(atPos ER (kcell (c, i)) 0 ∅ 0 ∗ reached ER (kcell (c, i)) 0)) ∗ ownToks c) : sProp 𝕄)
      ⊢ bigSep Finset.univ (G' m) := by
  rw [bigSep_sep', bigSep_sep', ← bigSep_univ_prod (fun ck : Dev nD × Fin 27 => iprop(∃ κ : ℕ, cellInv ER (rd m) κ (kcell ck))),
    bigSep_congr (s := Finset.univ) (fun (c : Dev nD) _ => bigSep_sep' Finset.univ (fun i : Fin 27 => (atPos ER (kcell (c, i)) 0 ∅ 0 : sProp 𝕄)) (fun i => reached ER (kcell (c, i)) 0)),
    bigSep_sep', ← bigSep_univ_prod (fun ck : Dev nD × Fin 27 => (reached ER (kcell ck) 0 : sProp 𝕄))]
  iintro ⟨HI, ⟨Hat, #HR⟩, Htok⟩
  ihave HK := (BI.bigSep_exists_pi Finset.univ (fun (ck : Dev nD × Fin 27) (κ : ℕ) => (cellInv ER (rd m) κ (kcell ck) : sProp 𝕄))) $$ HI
  icases HK with ⟨%K, #HI⟩
  ihave Htk := (toks_around (F := F)) $$ Htok
  iapply (bigSep_with_persistent (R := marks m K) (Φ := fun c => iprop(toks c ∗ places c)) fun c _ => show iprop(marks m K ∗ (toks c ∗ places c)) ⊢ G' m c from by
    unfold G'; iintro H; iexists K; iexact H)
  isplitr
  · unfold marks; isplitl; · iexact HI
    iexact HR
  · rw [bigSep_sep']
    isplitl [Htk]; · iexact Htk
    iapply (all_places (F := F))
    iexact Hat

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem q_back (k : Fin 3) (c : Dev nD) : q k (q (rev k) c) = c := by revert k c; decide
theorem cred_to (sm : SemLoc sig) (k : Fin 3) (n : ℕ) (c : Dev nD) :
    (Pipeline.launchCred (fun d => tallyAt ((q k d : Thread nD τ), sm) () n) c : sProp 𝕄) ⊢ cred (tallyAt ((c : Thread nD τ), sm) () n) :=
  Pipeline.launchCred_tallyAt sm (q k) (q (rev k)) (q_back k) (q_rev k) () n c

/-- What its peers owe a device at launch is its credit. -/
theorem creds_intro (c : Dev nD) : (Pipeline.launchCred (fun d => owed d 0) c : sProp 𝕄) ⊢ creds c := by
  have e : (fun d : Dev nD => owed d 0) = fun d => (((((((((((((((0 + tallyAt (dmaC (q 2 d) (agR (rev 2) 1)) () N) + tallyAt (dmaC (q 1 d) (agR (rev 1) 1)) () N) + tallyAt (dmaC (q 0 d) (agR (rev 0) 1)) () N)
    + tallyAt (dmaC (q 2 d) (agR (rev 2) 0)) () N) + tallyAt (dmaC (q 1 d) (agR (rev 1) 0)) () N) + tallyAt (dmaC (q 0 d) (agR (rev 0) 0)) () N)
    + tallyAt (dmaC (q 2 d) (rsR (rev 2) 1)) () N) + tallyAt (dmaC (q 2 d) (rsR (rev 2) 0)) () N) + tallyAt (dmaC (q 1 d) (rsR (rev 1) 1)) () N)
    + tallyAt (dmaC (q 1 d) (rsR (rev 1) 0)) () N) + tallyAt (dmaC (q 0 d) (rsR (rev 0) 1)) () N) + tallyAt (dmaC (q 0 d) (rsR (rev 0) 0)) () N)
    + tallyAt (barC (q 2 d)) () 1) + tallyAt (barC (q 1 d)) () 1) + tallyAt (barC (q 0 d)) () 1 : CellTallies nD τ sig Unit) := rfl
  rw [e]
  simp only [Pipeline.launchCred_add]
  unfold creds six crd
  simp only [amt_rsR, amt_agR]
  rw [show (tallyAt (barC c) () 3 : CellTallies nD τ sig Unit) = tallyAt (barC c) () 1 + (tallyAt (barC c) () 1 + tallyAt (barC c) () 1) by rw [tallyAt_add, tallyAt_add]]
  iintro ⟨⟨⟨⟨⟨⟨⟨⟨⟨⟨⟨⟨⟨⟨⟨-, A21⟩, A11⟩, A01⟩, A20⟩, A10⟩, A00⟩, R21⟩, R20⟩, R11⟩, R10⟩, R01⟩, R00⟩, B2⟩, B1⟩, B0⟩
  isplitl [B0 B1 B2]
  · iapply (cred_add _ _).2
    isplitl [B0]; · iapply (cred_to _ 0 1 c); iexact B0
    iapply (cred_add _ _).2
    isplitl [B1]; · iapply (cred_to _ 1 1 c); iexact B1
    iapply (cred_to _ 2 1 c); iexact B2
  isplitl [R00 R01 R10 R11 R20 R21]
  · isplitl [R20]; · iapply (cred_to (.dma (rsR 0 0)) 2 N c); iexact R20
    isplitl [R21]; · iapply (cred_to (.dma (rsR 0 1)) 2 N c); iexact R21
    isplitl [R10]; · iapply (cred_to (.dma (rsR 1 0)) 1 N c); iexact R10
    isplitl [R11]; · iapply (cred_to (.dma (rsR 1 1)) 1 N c); iexact R11
    isplitl [R00]; · iapply (cred_to (.dma (rsR 2 0)) 0 N c); iexact R00
    iapply (cred_to (.dma (rsR 2 1)) 0 N c); iexact R01
  isplitl [A20]; · iapply (cred_to (.dma (agR 0 0)) 2 N c); iexact A20
  isplitl [A21]; · iapply (cred_to (.dma (agR 0 1)) 2 N c); iexact A21
  isplitl [A10]; · iapply (cred_to (.dma (agR 1 0)) 1 N c); iexact A10
  isplitl [A11]; · iapply (cred_to (.dma (agR 1 1)) 1 N c); iexact A11
  isplitl [A00]; · iapply (cred_to (.dma (agR 2 0)) 0 N c); iexact A00
  iapply (cred_to (.dma (agR 2 1)) 0 N c); iexact A01

end Cert.Moe

end
-- ==== Proof.Launch.lean ====
/-
# The expert layer on four devices: the launch and the run
-/
module

public import proofs.«01_k».proof.Proof.Deal
public import Idealize.ShloMosaic.Lib.Pipeline.CollectiveSegs

@[expose] public section

set_option maxRecDepth 16384

noncomputable section

namespace Cert.Moe

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## What the pipeline is told of the body -/

/-- What the body starts from besides its buffers on chip. -/
def start (c : Dev nD) : sProp 𝕄 := iprop(∃ K, recs m K ∗ toks c ∗ places c ∗ creds c ∗ hbmArgs m c)
def Φ₀ (c : Dev nD) : sProp 𝕄 := iprop(start m c ∗ scratch c)
/-- What it leaves. -/
def Φ₁ (c : Dev nD) : sProp 𝕄 := iprop(hbmArgs m c ∗ scratch c ∗ shuts c ∗ semVal (barC c) 0)

def dats (_ : Fin 1) (c : Dev nD) : Dat τ (Elt F) Unit ℕ UU ℕ cfg0 c where
  A w := m ((cfg0.win w).arr.view.loc (c : Thread nD τ))
  after w _ := match w with
    | ⟨0, _⟩ => pB m c
    | ⟨1, _⟩ => iB m c
    | ⟨2, _⟩ => outB m c
  Φ t := match t with
    | ⟨0, _⟩ => Φ₀ m c
    | ⟨_ + 1, _⟩ => Φ₁ m c
  q _ := fullShare
  owed t := match t with
    | ⟨0, _⟩ => owed c 0
    | ⟨_ + 1, _⟩ => 0

theorem fin_N (t : Fin cfg0.N) : t = t0_0 := fin_N0 t
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]
/-- A staging buffer at given contents. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem bigSep_W (Φ : Fin cfg0.W → sProp 𝕄) : bigSep Finset.univ Φ = iprop(Φ (0 : Fin 3) ∗ Φ (1 : Fin 3) ∗ Φ (2 : Fin 3)) := bigSep_W0 Φ
theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl
theorem before_0 (c : Dev nD) (d) : (dats m 0 c).before (0 : Fin 3) t0_0 d = pB m c := by
  unfold Dat.before; rw [if_pos (fetch_0 t0_0)]; rfl
theorem before_1 (c : Dev nD) (d) : (dats m 0 c).before (1 : Fin 3) t0_0 d = iB m c := by
  unfold Dat.before; rw [if_pos (fetch_1 t0_0)]; rfl

def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def bodyPost (c : Dev nD) : sProp 𝕄 :=
  iprop(Φ₁ m c ∗ (dats m 0 c).owesAt () t0_0.succ ∗ stg c cc0_stg0_0 (pB m c) ∗ stg c cc0_stg1_0 (iB m c) ∗ stg c cc0_stg2_0 (outB m c))

/-- The body meets what the pipeline asks of it. -/
theorem body_meets (c : Dev nD) : bodyPre m c ⊢ wpc c (app (cc0_body (F := F))) (fun _ => bodyPost m c) := by
  unfold bodyPre Φ₀ start
  simp only [before_0, before_1]
  unfold stg Dat.owesAt Pipeline.owesWithin
  rw [show (dats m 0 c).owed t0_0.castSucc = owed c 0 from rfl]
  iintro ⟨⟨⟨%K, #HR, Ht, Hp, Hc, Hh⟩, Hs⟩, ⟨%W, %hW, HO⟩, ⟨%d0, %f0, %h0, Hw0⟩, ⟨%d1, %f1, %h1, Hw1⟩, ⟨%d2, %f2, %h2, Hw2⟩⟩
  subst h0 h1
  iapply (body m K c _)
  isplitr; · iexact HR
  isplitl
  · isplitl [HO]
    · unfold ow; iexists W; iexact HO
    isplitl [Hh]; · iexact Hh
    isplitl [Hs]; · iexact Hs
    isplitl [Hw0]; · unfold atP; iexact Hw0
    isplitl [Hw1]; · unfold atI; iexact Hw1
    isplitl [Hw2]; · iexists f2; iexact Hw2
    isplitl [Ht]; · iexact Ht
    isplitl [Hp]; · iexact Hp
    iexact Hc
  iintro ⟨HO, Hh, Hs, Hw0, Hw1, Hw2, Hz, Hb⟩
  unfold bodyPost Φ₁ stg Dat.owesAt Pipeline.owesWithin ow atP atI
  rw [show (dats m 0 c).owed t0_0.succ = owed c 15 from rfl]
  icases HO with ⟨%W', HO⟩
  isplitl [Hh Hs Hz Hb]
  · isplitl [Hh]; · iexact Hh
    isplitl [Hs]; · iexact Hs
    isplitl [Hz]; · iexact Hz
    iexact Hb
  isplitl [HO]
  · iexists W'
    isplitr; · ipureintro; exact fun _ _ => Or.inl trivial
    iexact HO
  isplitl [Hw0]
  · iexists _; isplitr; · (ipureintro; rfl)
    iexact Hw0
  isplitl [Hw1]
  · iexists _; isplitr; · (ipureintro; rfl)
    iexact Hw1
  iexists _; isplitr; · (ipureintro; rfl)
  iexact Hw2

set_option maxRecDepth 16384 in
theorem body_obligation (c : Dev nD) : BodyObligation (dats (F := F) m 0 c) (defs₀ (F := F)) 𝒱₀ () Set.univ := fun t => by
  rw [fin_N t]
  rw [bigSep_W, bigSep_W]
  simp only [owns_whole_eq]
  exact body_meets m c

/-! ## The launch's side conditions -/

theorem ownSemFacts : Pipeline.OwnSemFacts cfg0.spec osem := by decide
theorem share_eq (c : Dev nD) (w : Fin cfg0.W) : (dats m 0 c).share w = fullShare := by unfold Dat.share; split <;> rfl

/-- The kernel's own cells at the end. -/
theorem shuts_own (c : Dev nD) : shuts c ⊢ (Pipeline.ownSems0 (Ix := Unit) (Name := ℕ) (U := UU) (Lvl := ℕ) (Val := Elt F) (τ := τ) osem c : sProp 𝕄) := by
  rw [Pipeline.ownSems0_eq_of_list c osem [0, 1, 2, 3, 4, 5, 6, 7, 8, 9, 10, 11, 12, 13, 14, 15, 16, 17, 18, 19, 20, 21, 22, 23, 24, 25] (by decide) (by decide)]
  show _ ⊢ iprop(shut c (inS 0) ∗ shut c (inS 1) ∗ shut c (rsS 0 0) ∗ shut c (rsS 0 1) ∗ shut c (rsS 1 0) ∗ shut c (rsS 1 1) ∗ shut c (rsS 2 0) ∗ shut c (rsS 2 1)
    ∗ shut c (rsR 0 0) ∗ shut c (rsR 0 1) ∗ shut c (rsR 1 0) ∗ shut c (rsR 1 1) ∗ shut c (rsR 2 0) ∗ shut c (rsR 2 1)
    ∗ shut c (agS 0 0) ∗ shut c (agS 0 1) ∗ shut c (agS 1 0) ∗ shut c (agS 1 1) ∗ shut c (agS 2 0) ∗ shut c (agS 2 1)
    ∗ shut c (agR 0 0) ∗ shut c (agR 0 1) ∗ shut c (agR 1 0) ∗ shut c (agR 1 1) ∗ shut c (agR 2 0) ∗ shut c (agR 2 1))
  unfold shuts six
  iintro ⟨H0, H1, ⟨A0, A1, A2, A3, A4, A5⟩, ⟨B0, B1, B2, B3, B4, B5⟩, ⟨C0, C1, C2, C3, C4, C5⟩, D0, D1, D2, D3, D4, D5⟩
  iframe H0 H1 A0 A1 A2 A3 A4 A5 B0 B1 B2 B3 B4 B5 C0 C1 C2 C3 C4 C5 D0 D1 D2 D3 D4 D5

theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ G' m c)
      ⊢ |={Set.univ}=> iprop(start m c ∗ emp) := by
  rw [Pipeline.unscopedRestP_none]
  iintro ⟨Hh, #Hlev, Hcr, -, HG⟩
  ihave Hh := (Entails.of_eq (unscopedRest0_eq c (fun b => m ((c : Thread nD τ).loc b)))) $$ Hh
  ihave Hc := (creds_intro (F := F) c) $$ Hcr
  unfold G' marks
  icases HG with ⟨%K, ⟨#HI, #HM⟩, Ht, Hp⟩
  imodintro
  unfold start recs hbmArgs
  isplitl
  · iexists K
    isplitr
    · isplitr; · iexact HI
      isplitr; · iexact HM
      iexact Hlev
    isplitl [Ht]; · iexact Ht
    isplitl [Hp]; · iexact Hp
    isplitl [Hc]; · iexact Hc
    iexact Hh
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop((unscopedSems0 c ∗ hbmArgs m c) ∗ Pipeline.ownSems0 osem c ∗ Pipeline.scopedRest cfg0.spec c) := by
  rw [show (dats m 0 c).Φ (Fin.last cfg0.N) = Φ₁ m c from rfl, scopedRest0_eq, unscopedSems0_eq]
  unfold Φ₁ scratch
  iintro ⟨Hh, Hs, Hz, Hb⟩
  isplitl [Hh Hb]
  · isplitl [Hb] <;> iassumption
  isplitl [Hz]
  · iapply (shuts_own (F := F) c); iexact Hz
  iexact Hs

theorem waits (c : Dev nD) : (levAts L lv : sProp 𝕄) ⊢ Pipeline.cellsWaits cfgs (dats m) () 0 c :=
  Pipeline.cellsWaits_intro cfgs (dats m) () 0 c fun w s t => by
    have h0 : ∀ (p : DmaSem sig), lvOf (.dma p) = 0 → (levAts L lv : sProp 𝕄) ⊢ MayWait (c : Thread nD τ) (.dma p) () ((dats m 0 c).owed t) := fun p hp => by
      rcases t with ⟨_ | _, ht⟩
      · exact mayWait_owed c (.dma p) 0 (by rw [hp]; decide)
      · exact mayWait_owed c (.dma p) 15 (by intro p hp; exact absurd hp List.not_mem_nil)
    exact h0 _ (by fin_cases w <;> fin_cases s <;> decide)

/-! ## The run -/

def finalA (c : Dev nD) (w : Fin cfg0.W) : Buf (Elt F) ((cfg0.win w).arr.view.loc (c : Thread nD τ)) := (dats m 0 c).arrAt w cfg0.N

/-- What every final state shows. -/
def Post : PUnit × MemSt nD τ sig (Elt F) → Prop := fun r =>
  (∀ c : Dev nD, (∀ w : Fin cfg0.W, r.2.mem ((cfg0.win w).arr.view.loc (c : Thread nD τ)) = finalA m c w)
    ∧ r.2.mem ((c : Thread nD τ).loc main_arg0) = m ((c : Thread nD τ).loc main_arg0)
    ∧ r.2.mem ((c : Thread nD τ).loc main_arg3) = m ((c : Thread nD τ).loc main_arg3))
  ∧ r.2.sem = fun _ => 0

/-- From any memory with every counter at zero, every fair execution ends with the computed contents in each device's
    arrays, the arguments unchanged, and every counter at zero. -/
theorem run_main : θ_run defs (onTc (τ := τ) (main (F := F))) (s₀ m ρ) (Post m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => owed d 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_rounds m) $$ HX with HG
      imodintro
      isplitl [HP] <;> iassumption)
    (hglob := glob m)
    (hA := fun _ _ => rfl) (hpf := fun _ k => k.elim0)
    (X := start m) (Y := fun c => iprop(unscopedSems0 c ∗ hbmArgs m c)) (Z := fun _ => iprop(emp))
    (hX := start_intro m ρ) (hin := phi0_intro m) (hout := phi1_exit m)
    (QY := fun c s => (s.mem ((c : Thread nD τ).loc main_arg0) = m ((c : Thread nD τ).loc main_arg0)
        ∧ s.mem ((c : Thread nD τ).loc main_arg3) = m ((c : Thread nD τ).loc main_arg3))
      ∧ ∀ sm : SemLoc sig, sm.isScoped .tc = false → s.sem ((c.tc : Thread nD τ), sm) = 0)
    (hY := fun c s' => by
      unfold hbmArgs
      iintro ⟨⟨Hu, Ha, Hg⟩, -, HSI⟩
      icombine HSI Ha gives %ha
      icombine HSI Hg gives %hg
      imod (Pipeline.unscopedSems0_read (X := unscopedSems0 c) (c := c) fupd_intro s') $$ [Hu HSI] with ⟨%hs, HSI⟩
      · isplitl [Hu] <;> iassumption
      imodintro
      isplitr
      · ipureintro
        exact ⟨⟨Buf.eq_of_forall_mem_univ ha, Buf.eq_of_forall_mem_univ hg⟩, hs⟩
      iexact HSI)
    (hQ := fun _ h hs => ⟨fun c => ⟨fun w => (h c).1 w, (h c).2.2.1.1, (h c).2.2.1.2⟩, sem_eq_zero hs fun c => (h c).2.2.2⟩)

/-- The staged inputs after the run hold what they held. -/
theorem finalA_p (c : Dev nD) : finalA m c (0 : Fin 3) = m (win0_0.arr.view.loc (c : Thread nD τ)) :=
  (dats (F := F) m 0 c).arrAt_in (0 : Fin 3) rfl _
theorem finalA_i (c : Dev nD) : finalA m c (1 : Fin 3) = m (win0_1.arr.view.loc (c : Thread nD τ)) :=
  (dats (F := F) m 0 c).arrAt_in (1 : Fin 3) rfl _

end Cert.Moe

end
-- ==== Proof.Maths.lean ====
/-  The mathematics of the layer, over the extended reals and apart from any program: the softmax of a row of sixteen
    scores, the shares of the two chosen experts, and the sum over all the experts that the kernel forms. -/
module

public import Idealize.ShloMosaic.PureOps.Ideal

@[expose] public section

noncomputable section

namespace Cert.Moe

open Idealize.ShloMosaic

/-- The largest of a row of scores. -/
def top (s : Fin 16 → EReal) : EReal := Finset.univ.fold max ⊥ s
/-- A score's exponential, the largest score taken away first. -/
def weight (s : Fin 16 → EReal) (e : Fin 16) : EReal := Ideal.exp (s e - top s)
/-- The softmax of a row of scores. -/
def prob (s : Fin 16 → EReal) (e : Fin 16) : EReal := Ideal.div (weight s e) (∑ k, weight s k)
/-- Expert `t`'s share when `a` and `b` are chosen. -/
def share (s : Fin 16 → EReal) (a b t : Fin 16) : EReal := Ideal.div (prob s t) (prob s a + prob s b)

/-- The largest of finite scores is one of them. -/
theorem top_mem (s : Fin 16 → EReal) : ∃ e, top s = s e := by
  have h : top s = Finset.univ.sup s := rfl
  obtain ⟨e, -, he⟩ := Finset.exists_mem_eq_sup Finset.univ Finset.univ_nonempty s
  exact ⟨e, h.trans he⟩

/-- A finite sum of reals is a real, and positive when each term is. -/
theorem sum_pos_real {n : Nat} (f : Fin n → EReal) (hn : 0 < n) (h : ∀ k, ∃ r : ℝ, 0 < r ∧ f k = r) : ∃ r : ℝ, 0 < r ∧ ∑ k, f k = r := by
  choose g hg hf using h
  refine ⟨∑ k, g k, Finset.sum_pos (fun k _ => hg k) ⟨⟨0, hn⟩, Finset.mem_univ _⟩, ?_⟩
  rw [Finset.sum_congr rfl fun k _ => hf k]
  exact (map_sum (⟨⟨Real.toEReal, EReal.coe_zero⟩, EReal.coe_add⟩ : ℝ →+ EReal) g Finset.univ).symm

/-- A quotient of positive reals is one. -/
theorem div_pos_real {a b : EReal} (ha : ∃ r : ℝ, 0 < r ∧ a = r) (hb : ∃ r : ℝ, 0 < r ∧ b = r) : ∃ r : ℝ, 0 < r ∧ Ideal.div a b = r := by
  obtain ⟨x, hx, rfl⟩ := ha
  obtain ⟨y, hy, rfl⟩ := hb
  refine ⟨x * y⁻¹, mul_pos hx (inv_pos.2 hy), ?_⟩
  unfold Ideal.div
  rw [if_neg (by simpa using hy.ne'), ← EReal.coe_inv, ← EReal.coe_mul]

variable {s : Fin 16 → EReal} (hs : ∀ e, ∃ r : ℝ, s e = r)
include hs

theorem weight_pos (e : Fin 16) : ∃ r : ℝ, 0 < r ∧ weight s e = r := by
  obtain ⟨k, hk⟩ := top_mem s
  obtain ⟨a, ha⟩ := hs e
  obtain ⟨b, hb⟩ := hs k
  refine ⟨Real.exp (a - b), Real.exp_pos _, ?_⟩
  unfold weight
  rw [hk, ha, hb, ← EReal.coe_sub]
  rfl

/-- Finite scores have positive, finite probabilities. -/
theorem prob_pos (e : Fin 16) : ∃ r : ℝ, 0 < r ∧ prob s e = r :=
  div_pos_real (weight_pos hs e) (sum_pos_real _ (by decide) (weight_pos hs))

/-- And the chosen experts' shares are positive and finite. -/
theorem share_pos (a b t : Fin 16) : ∃ r : ℝ, 0 < r ∧ share s a b t = r := by
  refine div_pos_real (prob_pos hs t) ?_
  obtain ⟨x, hx, h⟩ := prob_pos hs a
  obtain ⟨y, hy, k⟩ := prob_pos hs b
  exact ⟨x + y, add_pos hx hy, by rw [h, k, EReal.coe_add]⟩

omit hs

/-- A real that is not negative comes out of a sum, whatever its terms. -/
theorem mul_sum_real {n : Nat} {w : ℝ} (hw : 0 ≤ w) (f : Fin n → EReal) : (w : EReal) * ∑ k, f k = ∑ k, (w : EReal) * f k := by
  classical
  refine Finset.induction_on (Finset.univ : Finset (Fin n)) (by simp) fun k S hk ih => ?_
  rw [Finset.sum_insert hk, Finset.sum_insert hk, ← ih, EReal.left_distrib_of_nonneg_of_ne_top (by exact_mod_cast hw) (EReal.coe_ne_top _)]

/-- The sum over every expert of the rows it is given, where a token's row reaches expert `e` scaled by what the token's
    two choices give it, is the two chosen experts' products scaled by their shares. -/
theorem mix {u v : EReal} (hu : ∃ r : ℝ, 0 < r ∧ u = r) (hv : ∃ r : ℝ, 0 < r ∧ v = r) (a b : Fin 16) (x : Fin 256 → EReal) (W : Fin 16 → Fin 256 → EReal) :
    ∑ e, ∑ d, (((if a = e then u else 0) + (if b = e then v else 0)) * x d) * W e d
      = u * (∑ d, x d * W a d) + v * (∑ d, x d * W b d) := by
  obtain ⟨p, hp, rfl⟩ := hu
  obtain ⟨q, hq, rfl⟩ := hv
  have h : ∀ (c : ℝ) (_ : 0 < c) (t e : Fin 16), (0 : EReal) ≤ if t = e then (c : EReal) else 0 := fun c hc t e => by
    split
    · exact_mod_cast hc.le
    · exact le_rfl
  have one : ∀ (c : ℝ) (_ : 0 < c) (t : Fin 16),
      ∑ e, ∑ d, ((if t = e then (c : EReal) else 0) * (x d * W e d)) = (c : EReal) * ∑ d, x d * W t d := fun c hc t => by
    rw [Finset.sum_eq_single t (fun e _ he => by simp [Ne.symm he]) (fun hh => absurd (Finset.mem_univ _) hh), mul_sum_real hc.le]
    simp
  rw [← one p hp, ← one q hq, ← Finset.sum_add_distrib]
  refine Finset.sum_congr rfl fun e _ => ?_
  rw [← Finset.sum_add_distrib]
  refine Finset.sum_congr rfl fun d _ => ?_
  rw [mul_assoc, EReal.right_distrib_of_nonneg (h p hp a e) (h q hq b e)]

/-- Expert `j` of device `c`. -/
def expert (c : Fin 4) (j : Fin 4) : Fin 16 := ⟨4 * c.val + j.val, by omega⟩

/-- A sum over the devices of sums over each device's experts is a sum over the experts. -/
theorem sum_expert {β : Type} [AddCommMonoid β] (f : Fin 16 → β) : ∑ c, ∑ j, f (expert c j) = ∑ e, f e := by
  rw [← Fintype.sum_prod_type', ← Equiv.sum_comp (finProdFinEquiv : Fin 4 × Fin 4 ≃ Fin (4 * 4)) f]
  refine Finset.sum_congr rfl fun x _ => congrArg f (Fin.ext ?_)
  show 4 * x.1.val + x.2.val = x.2.val + 4 * x.1.val
  omega

/-- A sum over a row of `1024` entries, four runs of `256`. -/
theorem sum_runs {β : Type} [AddCommMonoid β] (f : Fin 1024 → β) :
    ∑ k, f k = ∑ j : Fin 4, ∑ d : Fin 256, f ⟨256 * j.val + d.val, by omega⟩ := by
  rw [← Fintype.sum_prod_type', ← Equiv.sum_comp (finProdFinEquiv : Fin 4 × Fin 256 ≃ Fin (4 * 256)) f]
  refine Finset.sum_congr rfl fun x _ => congrArg f (Fin.ext ?_)
  show x.2.val + 256 * x.1.val = 256 * x.1.val + x.2.val
  omega

end Cert.Moe

end
-- ==== Proof.GateValue.lean ====
/-  The gates read at an index over the extended reals: the softmax of the router's scores, the two chosen experts'
    probabilities, and each token's share of each of the device's experts. -/
module

public import proofs.«01_k».proof.Proof.Gen.KernelIdeal.Skeleton
public import proofs.«01_k».proof.Proof.Maths
public import Idealize.ShloMosaic.Lib.Pointwise
public import Idealize.ShloMosaic.Lib.ValueIdx

@[expose] public section

set_option maxRecDepth 16384

noncomputable section

namespace Cert.Moe

open Cert.KernelIdeal Cert.KernelIdeal.Gen Idealize.ShloMosaic

/-- The router's score of expert `e` for token `i`. -/
def score (X : S512x256.Idx → EReal) (P : S256x16.Idx → EReal) (i : Fin 512) (e : Fin 16) : EReal := ∑ d : Fin 256, X (ix2 i d) * P (ix2 d e)

/-- The maximum's starting word is minus infinity. -/
theorem neg_inf : Ideal.ofBits FTy.f32 4286578688#32 = ⊥ := by
  simp [Ideal.ofBits, Ideal.ieee]

/-- An expert's number is the index word exactly when it is the expert the word names. -/
theorem pick (x a : Fin 16) (u v : EReal) : Scalar.select (IntOp.cmpi CmpIPredicate.eq (BitVec.ofNat 32 x.val) (BitVec.ofNat 32 a.val)) u v = if x = a then u else v := by
  have h : (BitVec.ofNat 32 x.val = BitVec.ofNat 32 a.val) ↔ x = a := by revert x a; decide
  simp only [IntOp.cmpi, Scalar.select_ofBool]
  by_cases hx : x = a <;> simp [hx, h]

/-- The kernel's softmax is the softmax of the scores. -/
theorem pay1_apply (X : FVec Ideal S512x256 .f32) (P : FVec Ideal S256x16 .f32) (i : Fin 512) (e : Fin 16) :
    k0_pay1 (F := Ideal) X P (ix2 i e) = prob (score X P i) e := by
  pointwise [k0_pay1]
  rw [neg_inf]
  rfl

/-- The first chosen expert's probability. -/
theorem pay4_apply (X : FVec Ideal S512x256 .f32) (P : FVec Ideal S256x16 .f32) (I : IVec S512x1 32) (i : Fin 512) (a : Fin 16)
    (ha : I (ix2 i (0 : Fin 1)) = BitVec.ofNat 32 a.val) : k0_pay4 (F := Ideal) X P I (ix2 i (0 : Fin 1)) = prob (score X P i) a := by
  pointwise [k0_pay4, k0_pay2]
  simp only [pay1_apply, ha, pick, Finset.sum_ite_eq', Finset.mem_univ, if_true]

/-- The second chosen expert's probability. -/
theorem pay5_apply (X : FVec Ideal S512x256 .f32) (P : FVec Ideal S256x16 .f32) (I : IVec S512x1 32) (i : Fin 512) (a : Fin 16)
    (ha : I (ix2 i (0 : Fin 1)) = BitVec.ofNat 32 a.val) : k0_pay5 (F := Ideal) X P I (ix2 i (0 : Fin 1)) = prob (score X P i) a := by
  pointwise [k0_pay5, k0_pay3]
  simp only [pay1_apply, ha, pick, Finset.sum_ite_eq', Finset.mem_univ, if_true]

/-- The first chosen expert's share. -/
theorem pay7_apply (X : FVec Ideal S512x256 .f32) (P : FVec Ideal S256x16 .f32) (I J : IVec S512x1 32) (i : Fin 512) (a b : Fin 16)
    (ha : I (ix2 i (0 : Fin 1)) = BitVec.ofNat 32 a.val) (hb : J (ix2 i (0 : Fin 1)) = BitVec.ofNat 32 b.val) :
    k0_pay7 (F := Ideal) X P I J (ix2 i (0 : Fin 1)) = share (score X P i) a b a := by
  pointwise [k0_pay7, k0_pay6]
  rw [pay4_apply X P I i a ha, pay5_apply X P J i b hb]
  rfl

/-- The second chosen expert's share. -/
theorem pay8_apply (X : FVec Ideal S512x256 .f32) (P : FVec Ideal S256x16 .f32) (I J : IVec S512x1 32) (i : Fin 512) (a b : Fin 16)
    (ha : I (ix2 i (0 : Fin 1)) = BitVec.ofNat 32 a.val) (hb : J (ix2 i (0 : Fin 1)) = BitVec.ofNat 32 b.val) :
    k0_pay8 (F := Ideal) X P I J (ix2 i (0 : Fin 1)) = share (score X P i) a b b := by
  pointwise [k0_pay8, k0_pay6]
  rw [pay4_apply X P I i a ha, pay5_apply X P J i b hb]
  rfl

/-- The word of a device's `j`-th expert, as the kernel computes it. -/
theorem expert_word (a : Fin 16) (c j : Fin 4) : (BitVec.ofNat 32 a.val = Scalar.addi (Scalar.muli (BitVec.ofNat 32 c.val) 4#32) (BitVec.ofNat 32 j.val)) ↔ a = expert c j := by
  revert a c j; decide

/-- A gate kept where the index word names the device's `j`-th expert, else nothing. -/
theorem keep (a : Fin 16) (c j : Fin 4) (w : BitVec 32) (hw : w = BitVec.ofNat 32 j.val) (u : EReal) :
    Scalar.select (IntOp.cmpi CmpIPredicate.eq (BitVec.ofNat 32 a.val) (Scalar.addi (Scalar.muli (BitVec.ofNat 32 c.val) 4#32) w)) u 0 = if a = expert c j then u else 0 := by
  subst hw
  simp only [IntOp.cmpi, Scalar.select_ofBool]
  by_cases hx : a = expert c j
  · rw [(expert_word a c j).2 hx]
    simp [hx]
  · have := mt (expert_word a c j).1 hx
    simp [this, hx]

/-- The two gates of a token, each where its word names the device's `j`-th expert. -/
def kept2 (w : BitVec 32) (I J : BitVec 32) (u v : EReal) (j : BitVec 32) : EReal :=
  Scalar.select (IntOp.cmpi CmpIPredicate.eq I (Scalar.addi (Scalar.muli w 4#32) j)) u 0 + Scalar.select (IntOp.cmpi CmpIPredicate.eq J (Scalar.addi (Scalar.muli w 4#32) j)) v 0

/-- The gate buffer's columns in terms of the index words and the shares. -/
theorem pay11_apply (X : FVec Ideal S512x256 .f32) (P : FVec Ideal S256x16 .f32) (I J : IVec S512x1 32) (i : Fin 512) (w : BitVec 32) (j : Fin 4) :
    k0_pay11 (F := Ideal) w (k0_pay2 (F := Ideal) I) (k0_pay3 (F := Ideal) J) (k0_pay7 X P I J) (k0_pay8 X P I J)
        (k0_pay9 w X P I J) (k0_pay10 (F := Ideal) w J) (ix2 i j)
      = kept2 w (I (ix2 i (0 : Fin 1))) (J (ix2 i (0 : Fin 1))) (k0_pay7 (F := Ideal) X P I J (ix2 i (0 : Fin 1))) (k0_pay8 (F := Ideal) X P I J (ix2 i (0 : Fin 1))) (BitVec.ofNat 32 j.val) := by
  fin_cases j
  all_goals
    pointwise [k0_pay11, k0_pay9, k0_pay10, k0_pay2, k0_pay3]
    rfl

/-- The gate of token `i` for the device's `j`-th expert. -/
theorem gate_apply (X : FVec Ideal S512x256 .f32) (P : FVec Ideal S256x16 .f32) (I J : IVec S512x1 32) (i : Fin 512) (a b : Fin 16) (c j : Fin 4)
    (ha : I (ix2 i (0 : Fin 1)) = BitVec.ofNat 32 a.val) (hb : J (ix2 i (0 : Fin 1)) = BitVec.ofNat 32 b.val) :
    k0_pay11 (F := Ideal) (BitVec.ofNat 32 c.val) (k0_pay2 (F := Ideal) I) (k0_pay3 (F := Ideal) J) (k0_pay7 X P I J) (k0_pay8 X P I J)
        (k0_pay9 (BitVec.ofNat 32 c.val) X P I J) (k0_pay10 (F := Ideal) (BitVec.ofNat 32 c.val) J) (ix2 i j)
      = (if a = expert c j then share (score X P i) a b a else 0) + (if b = expert c j then share (score X P i) a b b else 0) := by
  rw [pay11_apply, pay7_apply X P I J i a b ha hb, pay8_apply X P I J i a b ha hb, ha, hb, kept2, keep a c j _ rfl, keep b c j _ rfl]

end Cert.Moe

end
-- ==== Proof.MixValue.lean ====
/-  The expert matmuls read at an index over the extended reals: a device's partial product is the sum, over its four
    experts, of the gated activations against the expert's weights. -/
module

public import proofs.«01_k».proof.Proof.Gen.KernelIdeal.Skeleton
public import proofs.«01_k».proof.Proof.Maths
public import Idealize.ShloMosaic.Lib.Pointwise

@[expose] public section

set_option maxRecDepth 16384

noncomputable section

namespace Cert.Moe

open Cert.KernelIdeal Cert.KernelIdeal.Gen Idealize.ShloMosaic

/-- One entry of the four experts' product stacked along the contraction. -/
def stacked (W : S4x256x512.Idx → EReal) (x : S128x256.Idx → EReal) (w : S128x4.Idx → EReal) (r : Fin 128) (f : Fin 512) : EReal :=
  ∑ j : Fin 4, ∑ d : Fin 256, (w (ix2 r j) * x (ix2 r d)) * W (ix3 j d f)

/-- The stacked weights: row `256 j + d` is row `d` of expert `j`. -/
theorem pay13_apply (W : FVec Ideal S4x256x512 .bf16) (j : Fin 4) (d : Fin 256) (f : Fin 512) (h : 256 * j.val + d.val < 1024) :
    k0_pay13 (F := Ideal) W (ix2 (⟨256 * j.val + d.val, h⟩ : Fin 1024) f) = W (ix3 j d f) := by
  pointwise [k0_pay13]

/-- The narrowing of the weights changes nothing over the extended reals. -/
theorem pay12_apply (W : FVec Ideal S4x256x512 .f32) (j : Fin 4) (d : Fin 256) (f : Fin 512) : k0_pay12 (F := Ideal) W (ix3 j d f) = W (ix3 j d f) := by
  pointwise [k0_pay12]

/-- The device's own partial product. -/
theorem pay21_apply (W : FVec Ideal S4x256x512 .bf16) (x : FVec Ideal S128x256 .f32) (w : FVec Ideal S128x4 .f32) (r : Fin 128) (f : Fin 512) :
    k0_pay21 (F := Ideal) (k0_pay13 (F := Ideal) W) x w (ix2 r f) = stacked W x w r f := by
  pointwise [k0_pay21]
  rw [sum_runs]
  unfold stacked
  refine Finset.sum_congr rfl fun j _ => Finset.sum_congr rfl fun d _ => ?_
  rw [pay13_apply]
  congr 1
  have hd := d.isLt
  fin_cases j
  all_goals
    simp only [Nat.mul_zero, Nat.zero_add, Nat.mul_one]
    split_ifs
    all_goals first
      | omega
      | exact congrArg (fun t : Fin 256 => w (ix2 r _) * x (ix2 r t)) (Fin.ext (by first | rfl | (dsimp only; omega)))

/-- A peer's partial product is the same product of that peer's rows. -/
theorem pay14_apply (W : FVec Ideal S4x256x512 .bf16) (x : FVec Ideal S128x256 .f32) (w : FVec Ideal S128x4 .f32) (r : Fin 128) (f : Fin 512) :
    k0_pay14 (F := Ideal) W x w (ix3 (0 : Fin 1) r f) = k0_pay21 (F := Ideal) (k0_pay13 (F := Ideal) W) x w (ix2 r f) := by
  pointwise [k0_pay14, k0_pay21]

/-- The first half of the reduction: the device's own rows and the three received slabs. -/
theorem pay24_apply (M : FVec Ideal S128x512 .f32) (s0 s1 s2 : FVec Ideal S1x64x512 .bf16) (r : Fin 64) (f : Fin 512) :
    k0_pay24 (F := Ideal) (k0_pay22 (F := Ideal) M s0 s1) (k0_pay23 (F := Ideal) s2) (ix2 r f)
      = M (ix2 (⟨r.val, by omega⟩ : Fin 128) f) + s0 (ix3 (0 : Fin 1) r f) + s1 (ix3 (0 : Fin 1) r f) + s2 (ix3 (0 : Fin 1) r f) := by
  pointwise [k0_pay24, k0_pay22, k0_pay23]

/-- The second half of it. -/
theorem pay26_apply (M : FVec Ideal S128x512 .f32) (s0 s1 s2 : FVec Ideal S1x64x512 .bf16) (r : Fin 64) (f : Fin 512) :
    k0_pay26 (F := Ideal) (k0_pay25 (F := Ideal) M s0) s1 s2 (ix2 r f)
      = M (ix2 (⟨64 + r.val, by omega⟩ : Fin 128) f) + s0 (ix3 (0 : Fin 1) r f) + s1 (ix3 (0 : Fin 1) r f) + s2 (ix3 (0 : Fin 1) r f) := by
  pointwise [k0_pay26, k0_pay25]

end Cert.Moe

end
-- ==== Proof.OutValue.lean ====
/-  The kernel's result read at an index over the extended reals: each row is the sum, over the devices and their
    experts, of the gated activations against the expert's weights. -/
module

public import proofs.«01_k».proof.Proof.Launch
public import proofs.«01_k».proof.Proof.GateValue
public import proofs.«01_k».proof.Proof.MixValue
public import Idealize.ShloMosaic.Lib.Pipeline.ValueKit

@[expose] public section

set_option maxRecDepth 16384

noncomputable section

namespace Cert.Moe

open Cert.KernelIdeal Cert.KernelIdeal.Gen Idealize.ShloMosaic Idealize.ShloMosaic.Pipeline

local notation "𝕀" => Idealize.ShloMosaic.Ideal

/-- The memory holds the same tokens, router weights and indices on every device, and on device `c` the weights of
    its four experts; the indices name experts `a i` and `b i`. -/
structure Holds (m : (ℓ : Loc nD τ sig) → Buf (Elt 𝕀) ℓ) (X : S512x256.Idx → EReal) (P : S256x16.Idx → EReal) (R : S512x2.Idx → BitVec 32)
    (W : Fin 16 → Fin 256 → Fin 512 → EReal) (a b : Fin 512 → Fin 16) : Prop where
  tokens : ∀ c : Dev nD, (xB m c : S512x256.Idx → EReal) = X
  router : ∀ c : Dev nD, (m ((c.tc : Thread nD τ).loc main_arg1) : S256x16.Idx → EReal) = P
  routes : ∀ c : Dev nD, (m ((c.tc : Thread nD τ).loc main_arg2) : S512x2.Idx → BitVec 32) = R
  weights : ∀ (c : Dev nD) (j : Fin 4) (d : Fin 256) (f : Fin 512), (gB m c : S4x256x512.Idx → EReal) (ix3 j d f) = W (expert c j) d f
  first : ∀ i, R (ix2 i (0 : Fin 2)) = BitVec.ofNat 32 (a i).val
  second : ∀ i, R (ix2 i (1 : Fin 2)) = BitVec.ofNat 32 (b i).val

section
variable {m : (ℓ : Loc nD τ sig) → Buf (Elt 𝕀) ℓ} {X : S512x256.Idx → EReal} {P : S256x16.Idx → EReal} {R : S512x2.Idx → BitVec 32}
  {W : Fin 16 → Fin 256 → Fin 512 → EReal} {a b : Fin 512 → Fin 16}

/-- The router weights as staged are the argument. -/
theorem pB_eq (c : Dev nD) : (pB m c : S256x16.Idx → EReal) = m ((c.tc : Thread nD τ).loc main_arg1) := by
  funext i
  show m ((c.tc : Thread nD τ).loc main_arg1) (((cfg0.win 0).rect t0_0).emb i) = m ((c.tc : Thread nD τ).loc main_arg1) i
  congr 1
  funext a
  exact Fin.ext (Window.rect_emb_val_of_index_zero _ _ _ rfl _)

/-- The indices as staged are the argument. -/
theorem iB_eq (c : Dev nD) : (iB m c : S512x2.Idx → BitVec 32) = m ((c.tc : Thread nD τ).loc main_arg2) := by
  funext i
  show m ((c.tc : Thread nD τ).loc main_arg2) (((cfg0.win 1).rect t0_0).emb i) = m ((c.tc : Thread nD τ).loc main_arg2) i
  congr 1
  funext a
  exact Fin.ext (Window.rect_emb_val_of_index_zero _ _ _ rfl _)

/-- The result array after the run holds the computed contents. -/
theorem finalA_o (c : Dev nD) : (finalA m c (2 : Fin 3) : S512x512.Idx → EReal) = outB m c := by
  refine (dats m 0 c).arrAt_eq_of_after_last 2 t0_0 (by decide +kernel) _ fun j => ?_
  rfl

/-- The first column of indices. -/
theorem i0_apply (c : Dev nD) (i : Fin 512) : i0 m c (ix2 i (0 : Fin 1)) = (iB m c : S512x2.Idx → BitVec 32) (ix2 i (0 : Fin 2)) := by
  unfold i0
  refine congrArg (iB m c : S512x2.Idx → BitVec 32) (funext fun x => Fin.ext ?_)
  fin_cases x
  · show 0 + 1 * i.val = i.val
    omega
  · rfl

/-- The second column of indices. -/
theorem i1_apply (c : Dev nD) (i : Fin 512) : i1 m c (ix2 i (0 : Fin 1)) = (iB m c : S512x2.Idx → BitVec 32) (ix2 i (1 : Fin 2)) := by
  unfold i1
  refine congrArg (iB m c : S512x2.Idx → BitVec 32) (funext fun x => Fin.ext ?_)
  fin_cases x
  · show 0 + 1 * i.val = i.val
    omega
  · rfl

/-- The row of the tokens that row `r` of chunk `u` is. -/
def rowOf (u : Dev nD) (r : Fin 128) : Fin 512 := ⟨128 * u.val + r.val, by have := u.isLt; change u.val < 4 at this; omega⟩

theorem xr_apply (c : Dev nD) (k : Fin 3) (r : Fin 128) (d : Fin 256) : xr m c k (ix2 r d) = (xB m c : S512x256.Idx → EReal) (ix2 (rowOf (q k c) r) d) := by
  unfold xr
  refine congrArg (xB m c : S512x256.Idx → EReal) (funext fun x => Fin.ext ?_)
  have h := k0_off1_eq c k
  fin_cases x
  · show k0_off1 c (BitVec.ofNat 32 k.val) 0 + 1 * r.val = _
    rw [h]; show 128 * ((c.val + k.val + 9) % 4) + 1 * r.val = 128 * ((c.val + k.val + 9) % 4) + r.val
    omega
  · show k0_off1 c (BitVec.ofNat 32 k.val) 1 + 1 * d.val = _
    rw [h]; show 0 + 1 * d.val = d.val
    omega
theorem wr_apply (c : Dev nD) (k : Fin 3) (r : Fin 128) (d : Fin 4) : wr m c k (ix2 r d) = (wB m c : S512x4.Idx → EReal) (ix2 (rowOf (q k c) r) d) := by
  unfold wr
  refine congrArg (wB m c : S512x4.Idx → EReal) (funext fun x => Fin.ext ?_)
  have h := k0_off2_eq c k
  fin_cases x
  · show k0_off2 c (BitVec.ofNat 32 k.val) 0 + 1 * r.val = _
    rw [h]; show 128 * ((c.val + k.val + 9) % 4) + 1 * r.val = 128 * ((c.val + k.val + 9) % 4) + r.val
    omega
  · show k0_off2 c (BitVec.ofNat 32 k.val) 1 + 1 * d.val = _
    rw [h]; show 0 + 1 * d.val = d.val
    omega
theorem xo_apply (c : Dev nD) (r : Fin 128) (d : Fin 256) : xo m c (ix2 r d) = (xB m c : S512x256.Idx → EReal) (ix2 (rowOf c r) d) := by
  unfold xo
  refine congrArg (xB m c : S512x256.Idx → EReal) (funext fun x => Fin.ext ?_)
  have h := k0_off3_eq c
  fin_cases x
  · show k0_off3 c 0 + 1 * r.val = _
    rw [h]; show 128 * c.val + 1 * r.val = 128 * c.val + r.val
    omega
  · show k0_off3 c 1 + 1 * d.val = _
    rw [h]; show 0 + 1 * d.val = d.val
    omega
theorem wo_apply (c : Dev nD) (r : Fin 128) (d : Fin 4) : wo m c (ix2 r d) = (wB m c : S512x4.Idx → EReal) (ix2 (rowOf c r) d) := by
  unfold wo
  refine congrArg (wB m c : S512x4.Idx → EReal) (funext fun x => Fin.ext ?_)
  have h := k0_off4_eq c
  fin_cases x
  · show k0_off4 c 0 + 1 * r.val = _
    rw [h]; show 128 * c.val + 1 * r.val = 128 * c.val + r.val
    omega
  · show k0_off4 c 1 + 1 * d.val = _
    rw [h]; show 0 + 1 * d.val = d.val
    omega

/-- Token `i`'s gate for expert `e`. -/
def gate (X : S512x256.Idx → EReal) (P : S256x16.Idx → EReal) (a b : Fin 512 → Fin 16) (i : Fin 512) (e : Fin 16) : EReal :=
  (if a i = e then share (score X P i) (a i) (b i) (a i) else 0) + (if b i = e then share (score X P i) (a i) (b i) (b i) else 0)

/-- What device `c`'s experts contribute to an entry of the result. -/
def contrib (X : S512x256.Idx → EReal) (P : S256x16.Idx → EReal) (W : Fin 16 → Fin 256 → Fin 512 → EReal) (a b : Fin 512 → Fin 16)
    (i f : Fin 512) (c : Fin 4) : EReal :=
  ∑ j : Fin 4, ∑ d : Fin 256, (gate X P a b i (expert c j) * X (ix2 i d)) * W (expert c j) d f

/-- The device's number as the kernel computes it is its number. -/
theorem vw_eq (c : Dev nD) : vw c = BitVec.ofNat 32 (Fin.val (n := 4) c) := by revert c; decide

/-- The gate buffer. -/
theorem wB_apply (H : Holds m X P R W a b) (c : Dev nD) (i : Fin 512) (j : Fin 4) : (wB m c : S512x4.Idx → EReal) (ix2 i j) = gate X P a b i (expert c j) := by
  unfold wB
  rw [vw_eq, H.tokens c]
  have hp : (pB m c : S256x16.Idx → EReal) = P := (pB_eq c).trans (H.router c)
  have hi : (iB m c : S512x2.Idx → BitVec 32) = R := (iB_eq c).trans (H.routes c)
  rw [hp]
  exact gate_apply X P (i0 m c) (i1 m c) i (a i) (b i) c j ((i0_apply c i).trans (by rw [hi]; exact H.first i)) ((i1_apply c i).trans (by rw [hi]; exact H.second i))

/-- The stacked product of a device's rows is its experts' contribution. -/
theorem stacked_eq (H : Holds m X P R W a b) (c u : Dev nD) (x : S128x256.Idx → EReal) (w : S128x4.Idx → EReal) (r : Fin 128) (f : Fin 512)
    (hx : ∀ d, x (ix2 r d) = (xB m c : S512x256.Idx → EReal) (ix2 (rowOf u r) d)) (hw : ∀ j, w (ix2 r j) = (wB m c : S512x4.Idx → EReal) (ix2 (rowOf u r) j)) :
    stacked (bB m c) x w r f = contrib X P W a b (rowOf u r) f c := by
  unfold stacked contrib
  refine Finset.sum_congr rfl fun j _ => Finset.sum_congr rfl fun d _ => ?_
  have hg : (bB m c : S4x256x512.Idx → EReal) (ix3 j d f) = W (expert c j) d f := (pay12_apply (gB m c) j d f).trans (H.weights c j d f)
  rw [hx, hw, wB_apply H, hg, H.tokens c]

/-- The device's own rows. -/
theorem mine_apply (H : Holds m X P R W a b) (u : Dev nD) (r : Fin 128) (f : Fin 512) : mine m u (ix2 r f) = contrib X P W a b (rowOf u r) f u :=
  (pay21_apply _ _ _ r f).trans (stacked_eq H u u _ _ r f (fun d => xo_apply u r d) (fun j => wo_apply u r j))

/-- What peer `k` computed for this device. -/
theorem part_apply (H : Holds m X P R W a b) (u : Dev nD) (k : Fin 3) (r : Fin 128) (f : Fin 512) :
    part m (q k u) (rev k) (ix3 (0 : Fin 1) r f) = contrib X P W a b (rowOf u r) f (q k u) := by
  have hu : q (rev k) (q k u) = u := q_rev k u
  refine (pay14_apply _ _ _ r f).trans ((pay21_apply _ _ _ r f).trans (stacked_eq H (q k u) u _ _ r f (fun d => ?_) (fun j => ?_)))
  · rw [xr_apply, hu]
  · rw [wr_apply, hu]

/-- A landing slot's half, read. -/
theorem slot_apply (H : Holds m X P R W a b) (u : Dev nD) (k : Fin 3) (h : Fin 2) (r : Fin 64) (f : Fin 512) (t : Fin 128) (ht : t.val = 64 * h.val + r.val) :
    slot m u k h (ix3 (0 : Fin 1) r f) = contrib X P W a b (rowOf u t) f (q k u) := by
  refine Eq.trans ?_ (part_apply H u k t f)
  unfold slot
  refine (congrArg (recvB m u : S3x128x512.Idx → EReal) (show _ = (ix3 k t f : S3x128x512.Idx) from funext fun x => Fin.ext ?_)).trans ?_
  · fin_cases x
    · show k.val + 1 * 0 = k.val
      omega
    · show 64 * h.val + 1 * r.val = t.val
      omega
    · show 0 + 1 * f.val = f.val
      omega
  · unfold recvB
    refine congrArg (part m (q k u) (rev k)) (funext fun x => ?_)
    fin_cases x <;> rfl

/-- The four devices' contributions, the device's own first, are all of them. -/
theorem sum_peers (u : Dev nD) (g : Fin 4 → EReal) : g u + g (q 0 u) + g (q 1 u) + g (q 2 u) = ∑ c, g c := by
  have key : ∀ u : Fin 4, ∀ x0 x1 x2 x3 : EReal, (![x0, x1, x2, x3] : Fin 4 → EReal) u + (![x0, x1, x2, x3] : Fin 4 → EReal) (q 0 u) + (![x0, x1, x2, x3] : Fin 4 → EReal) (q 1 u) + (![x0, x1, x2, x3] : Fin 4 → EReal) (q 2 u) = x0 + x1 + x2 + x3 := by
    intro u x0 x1 x2 x3
    fin_cases u
    · rfl
    · show x1 + x2 + x3 + x0 = _; ac_rfl
    · show x2 + x3 + x0 + x1 = _; ac_rfl
    · show x3 + x0 + x1 + x2 = _; ac_rfl
  have hg : g = ![g 0, g 1, g 2, g 3] := by funext x; fin_cases x <;> rfl
  rw [Fin.sum_univ_four]
  have := key u (g 0) (g 1) (g 2) (g 3)
  rw [← hg] at this
  exact this

/-- The reduced rows. -/
theorem red_apply (H : Holds m X P R W a b) (u : Dev nD) (h : Fin 2) (r : Fin 64) (f : Fin 512) (t : Fin 128) (ht : t.val = 64 * h.val + r.val) :
    red m u h (ix2 r f) = ∑ c, contrib X P W a b (rowOf u t) f c := by
  rw [← sum_peers u]
  have s0 := slot_apply H u 0 h r f t ht
  have s1 := slot_apply H u 1 h r f t ht
  have s2 := slot_apply H u 2 h r f t ht
  have mn := mine_apply H u t f
  fin_cases h
  · refine (pay24_apply _ _ _ _ r f).trans ?_
    rw [show (⟨r.val, by omega⟩ : Fin 128) = t from Fin.ext (by simpa using ht.symm)]
    exact congrArg₂ (· + ·) (congrArg₂ (· + ·) (congrArg₂ (· + ·) mn s0) s1) s2
  · refine (pay26_apply _ _ _ _ r f).trans ?_
    rw [show (⟨64 + r.val, by omega⟩ : Fin 128) = t from Fin.ext (by simpa using ht.symm)]
    exact congrArg₂ (· + ·) (congrArg₂ (· + ·) (congrArg₂ (· + ·) mn s0) s1) s2

/-- The kernel's result, the same on every device: a sum over the experts. -/
theorem out_apply (H : Holds m X P R W a b) (c : Dev nD) (i f : Fin 512) :
    (outB m c : S512x512.Idx → EReal) (ix2 i f) = ∑ e : Fin 16, ∑ d : Fin 256, (gate X P a b i e * X (ix2 i d)) * W e d f := by
  have hi := i.isLt
  rw [← sum_expert (fun e => ∑ d : Fin 256, (gate X P a b i e * X (ix2 i d)) * W e d f)]
  have hrow : rowOf (⟨i.val / 128, by show _ < 4; omega⟩ : Dev nD) (⟨i.val % 128, Nat.mod_lt _ (by decide)⟩ : Fin 128) = i :=
    Fin.ext (Nat.div_add_mod i.val 128)
  have := red_apply H (⟨i.val / 128, by show _ < 4; omega⟩ : Dev nD) (⟨i.val / 64 % 2, Nat.mod_lt _ (by decide)⟩ : Fin 2) (⟨i.val % 64, Nat.mod_lt _ (by decide)⟩ : Fin 64) f
    (⟨i.val % 128, Nat.mod_lt _ (by decide)⟩ : Fin 128) (by dsimp only; omega)
  rw [hrow] at this
  refine Eq.trans ?_ this
  unfold outB
  refine congrArg (red m _ _) (funext fun x => ?_)
  fin_cases x <;> rfl

end

end Cert.Moe

end
-- ==== Proof.RefValue.lean ====
/-  The reference read at an index over the extended reals: each entry of its result is the two chosen experts' shares
    times their rows' products. -/
module

public import proofs.«01_k».proof.Proof.Gen.ReferenceIdeal.Read
public import proofs.«01_k».proof.Proof.Maths
public import Idealize.ShloMosaic.Lib.Pointwise
public import Idealize.ShloMosaic.Lib.ValueIdx

@[expose] public section

set_option maxRecDepth 16384

noncomputable section

namespace Cert.Moe

namespace Ref

open Cert.ReferenceIdeal Cert.ReferenceIdeal.Gen Cert.ReferenceIdeal.Read Idealize.ShloMosaic

/-- The reference's score of expert `e` for token `i`. -/
def score (X : S512x256.Idx → EReal) (P : S256x16.Idx → EReal) (i : Fin 512) (e : Fin 16) : EReal := ∑ d : Fin 256, X (ix2 i d) * P (ix2 d e)

/-- The maximum's starting word is minus infinity. -/
theorem neg_inf : Ideal.ofBits FTy.f32 4286578688#32 = ⊥ := by
  simp [Ideal.ofBits, Ideal.ieee]

/-- A small index word, read signed. -/
theorem word_toNat (n : ℕ) (h : n < 2 ^ 31) : (BitVec.ofNat 32 n).toInt.toNat = n := by
  have : (BitVec.ofNat 32 n).toInt = n := by
    rw [BitVec.toInt_eq_toNat_cond, BitVec.toNat_ofNat, Nat.mod_eq_of_lt (by omega), if_pos (by omega)]
  omega

/-- A small index word is not below zero, so the wrap of negative indices leaves it. -/
theorem wrap (n : ℕ) (h : n < 2 ^ 31) (w : BitVec 32) : Scalar.select (IntOp.cmpi .slt (BitVec.ofNat 32 n) 0#32) w (BitVec.ofNat 32 n) = BitVec.ofNat 32 n := by
  have : (BitVec.ofNat 32 n).toInt = n := by
    rw [BitVec.toInt_eq_toNat_cond, BitVec.toNat_ofNat, Nat.mod_eq_of_lt (by omega), if_pos (by omega)]
  simp [IntOp.cmpi, Scalar.select_ofBool, BitVec.slt, this]

/-- The pair gather of the probabilities: row `i`, column the index word names. -/
theorem probs_gather (p : S512x16.Idx → EReal) (idx : IVec S512x2 32) (i : Fin 512) (a : Fin 16)
    (h0 : idx (ix2 i (0 : Fin 2)) = BitVec.ofNat 32 i.val) (h1 : idx (ix2 i (1 : Fin 2)) = BitVec.ofNat 32 a.val) :
    Host.gather gather_S512x16_S512x2_S512_n_01_n_n_01_1_11 p idx (ix1 i) = p (ix2 i a) := by
  unfold Host.gather
  refine congrArg p (funext fun x => Fin.ext ?_)
  show gather_S512x16_S512x2_S512_n_01_n_n_01_1_11.start (ix1 i) idx x + gather_S512x16_S512x2_S512_n_01_n_n_01_1_11.batchCoord (ix1 i) x
    + gather_S512x16_S512x2_S512_n_01_n_n_01_1_11.offCoord (ix1 i) x = _
  have hx : x ∈ [(0 : Fin 2), 1] := by revert x; decide
  rw [GatherDims.batchCoord_eq_zero _ _ _ List.not_mem_nil, GatherDims.offCoord_eq_zero _ _ _ (fun h => ((GatherDims.mem_sKept _ _).mp h).1 hx)]
  unfold GatherDims.start
  rw [dif_pos (show x ∈ gather_S512x16_S512x2_S512_n_01_n_n_01_1_11.startIndexMap from hx)]
  have hi := i.isLt
  have ha := a.isLt
  have hsi : gather_S512x16_S512x2_S512_n_01_n_n_01_1_11.siIdx (ix1 i) ⟨List.idxOf x gather_S512x16_S512x2_S512_n_01_n_n_01_1_11.startIndexMap, List.idxOf_lt_length_iff.2 hx⟩ = ix2 i x := by
    funext b
    refine Fin.ext ?_
    fin_cases b <;> fin_cases x <;> rfl
  rw [hsi]
  fin_cases x
  · show min (idx (ix2 i (0 : Fin 2))).toInt.toNat (512 - 1) + 0 + 0 = i.val
    rw [h0, word_toNat _ (by omega)]
    omega
  · show min (idx (ix2 i (1 : Fin 2))).toInt.toNat (16 - 1) + 0 + 0 = a.val
    rw [h1, word_toNat _ (by omega)]
    omega

/-- The row gather of the experts' weights. -/
theorem weights_gather (W : S16x256x512.Idx → EReal) (idx : IVec S512x1 32) (i : Fin 512) (a : Fin 16) (d : Fin 256) (f : Fin 512)
    (h0 : idx (ix2 i (0 : Fin 1)) = BitVec.ofNat 32 a.val) :
    Host.gather gather_S16x256x512_S512x1_S512x256x512_12_0_n_n_0_1_1256512 W idx (ix3 i d f) = W (ix3 a d f) := by
  unfold Host.gather
  refine congrArg W (funext fun x => Fin.ext ?_)
  show gather_S16x256x512_S512x1_S512x256x512_12_0_n_n_0_1_1256512.start (ix3 i d f) idx x + gather_S16x256x512_S512x1_S512x256x512_12_0_n_n_0_1_1256512.batchCoord (ix3 i d f) x
    + gather_S16x256x512_S512x1_S512x256x512_12_0_n_n_0_1_1256512.offCoord (ix3 i d f) x = _
  rw [GatherDims.batchCoord_eq_zero _ _ _ List.not_mem_nil]
  have ha := a.isLt
  have hx : x = 0 ∨ x = 1 ∨ x = 2 := by
    match x with
    | ⟨0, _⟩ => exact Or.inl rfl
    | ⟨1, _⟩ => exact Or.inr (Or.inl rfl)
    | ⟨2, _⟩ => exact Or.inr (Or.inr rfl)
  rcases hx with rfl | rfl | rfl
  · have h00 : (0 : Fin 3) ∈ gather_S16x256x512_S512x1_S512x256x512_12_0_n_n_0_1_1256512.startIndexMap := List.mem_singleton.mpr rfl
    rw [GatherDims.offCoord_eq_zero _ _ _ (fun h => ((GatherDims.mem_sKept _ _).mp h).1 (List.mem_singleton.mpr rfl))]
    unfold GatherDims.start
    rw [dif_pos h00]
    have hsi : gather_S16x256x512_S512x1_S512x256x512_12_0_n_n_0_1_1256512.siIdx (ix3 i d f) ⟨List.idxOf (0 : Fin 3) gather_S16x256x512_S512x1_S512x256x512_12_0_n_n_0_1_1256512.startIndexMap, List.idxOf_lt_length_iff.2 h00⟩ = ix2 i (0 : Fin 1) := by
      funext b
      refine Fin.ext ?_
      match b with
      | ⟨0, _⟩ => rfl
      | ⟨1, _⟩ => rfl
    rw [hsi, h0, word_toNat _ (by omega)]
    show min a.val (16 - 1) + 0 + 0 = a.val
    omega
  · unfold GatherDims.start
    rw [dif_neg (by decide)]
    unfold GatherDims.offCoord
    rw [dif_pos (by decide)]
    simp only [Nat.zero_add]
    rfl
  · unfold GatherDims.start
    rw [dif_neg (by decide)]
    unfold GatherDims.offCoord
    rw [dif_pos (by decide)]
    simp only [Nat.zero_add]
    rfl

/-- The reference's softmax is the softmax of the scores. -/
theorem probs_apply (X : S512x256.Idx → EReal) (P : S256x16.Idx → EReal) (i : Fin 512) (e : Fin 16) :
    val_main_v9 (F := Ideal) X P (ix2 i e) = prob (score X P i) e := by
  pointwise [val_main_v9, val_main_v8, val_main_v7, val_main_v6, val_main_v5, val_main_v4, val_main_v3, val_main_v2, val_main_v1, val_main_v0, val_main_cst, val_main_cst_0]
  rw [neg_inf]
  rfl

section
variable (X : S512x256.Idx → EReal) (P : S256x16.Idx → EReal) (R : S512x2.Idx → BitVec 32) (W : S16x256x512.Idx → EReal) (i : Fin 512) (a b : Fin 16)

/-- The first index of a token, wrapped. -/
theorem first_word (h : R (ix2 i (0 : Fin 2)) = BitVec.ofNat 32 a.val) : val_main_v24 (F := Ideal) R (ix1 i) = BitVec.ofNat 32 a.val := by
  pointwise [val_main_v24, val_main_v23, val_main_v22, val_main_v21, val_main_v20, val_main_v12, val_main_v11, val_main_c_2, val_main_c_3]
  rw [h, wrap _ (by omega)]

/-- The second index of a token, wrapped. -/
theorem second_word (h : R (ix2 i (1 : Fin 2)) = BitVec.ofNat 32 b.val) : val_main_v38 (F := Ideal) R (ix1 i) = BitVec.ofNat 32 b.val := by
  pointwise [val_main_v38, val_main_v37, val_main_v36, val_main_v35, val_main_v34, val_main_v14, val_main_v13, val_main_c_6, val_main_c_7]
  rw [h, wrap _ (by omega)]

/-- The first index once more, before the weights' gather. -/
theorem first_row (h : R (ix2 i (0 : Fin 2)) = BitVec.ofNat 32 a.val) : val_main_v49 (F := Ideal) R (ix2 i (0 : Fin 1)) = BitVec.ofNat 32 a.val := by
  pointwise [val_main_v49, val_main_v48, val_main_v47, val_main_v46, val_main_v45, val_main_v44, val_main_v12, val_main_v11, val_main_c_8, val_main_c_9]
  rw [h, wrap _ (by omega)]

/-- The second index before the weights' gather. -/
theorem second_row (h : R (ix2 i (1 : Fin 2)) = BitVec.ofNat 32 b.val) : val_main_v57 (F := Ideal) R (ix2 i (0 : Fin 1)) = BitVec.ofNat 32 b.val := by
  pointwise [val_main_v57, val_main_v56, val_main_v55, val_main_v54, val_main_v53, val_main_v52, val_main_v14, val_main_v13, val_main_c_10, val_main_c_11]
  rw [h, wrap _ (by omega)]

/-- The first chosen expert's probability. -/
theorem first_prob (h : R (ix2 i (0 : Fin 2)) = BitVec.ofNat 32 a.val) : val_main_v28 (F := Ideal) X P R (ix1 i) = prob (score X P i) a := by
  refine (probs_gather _ (val_main_v27 (F := Ideal) R) i a ?_ ?_).trans (probs_apply X P i a)
  · pointwise [val_main_v27, val_main_v25, val_main_v19, val_main_v18, val_main_v17, val_main_v16, val_main_v15, val_main_v10, val_main_c, val_main_c_1]
    rw [wrap _ (by omega)]
  · pointwise [val_main_v27, val_main_v26]
    exact first_word R i a h

/-- The second chosen expert's probability. -/
theorem second_prob (h : R (ix2 i (1 : Fin 2)) = BitVec.ofNat 32 b.val) : val_main_v42 (F := Ideal) X P R (ix1 i) = prob (score X P i) b := by
  refine (probs_gather _ (val_main_v41 (F := Ideal) R) i b ?_ ?_).trans (probs_apply X P i b)
  · pointwise [val_main_v41, val_main_v39, val_main_v33, val_main_v32, val_main_v31, val_main_v30, val_main_v29, val_main_v10, val_main_c_4, val_main_c_5]
    rw [wrap _ (by omega)]
  · pointwise [val_main_v41, val_main_v40]
    exact second_word R i b h

/-- The product of a token's row with its first expert's weights. -/
theorem first_product (f : Fin 512) (h : R (ix2 i (0 : Fin 2)) = BitVec.ofNat 32 a.val) :
    val_main_v51 (F := Ideal) X R W (ix2 i f) = ∑ d : Fin 256, X (ix2 i d) * W (ix3 a d f) := by
  rw [val_main_v51_apply]
  refine Finset.sum_congr rfl fun d _ => congrArg₂ (· * ·) (congrArg X (ValueIdx.eq_ix2 _)) ?_
  refine Eq.trans (congrArg (val_main_v50 (F := Ideal) R W) ?_) (weights_gather W (val_main_v49 (F := Ideal) R) i a d f (first_row R i a h))
  funext x
  fin_cases x <;> rfl
/-- The product with the second expert's weights. -/
theorem second_product (f : Fin 512) (h : R (ix2 i (1 : Fin 2)) = BitVec.ofNat 32 b.val) :
    val_main_v59 (F := Ideal) X R W (ix2 i f) = ∑ d : Fin 256, X (ix2 i d) * W (ix3 b d f) := by
  rw [val_main_v59_apply]
  refine Finset.sum_congr rfl fun d _ => congrArg₂ (· * ·) (congrArg X (ValueIdx.eq_ix2 _)) ?_
  refine Eq.trans (congrArg (val_main_v58 (F := Ideal) R W) ?_) (weights_gather W (val_main_v57 (F := Ideal) R) i b d f (second_row R i b h))
  funext x
  fin_cases x <;> rfl

/-- The reference's result: each chosen expert's share times its product with the token. -/
theorem result_apply (f : Fin 512) (ha : R (ix2 i (0 : Fin 2)) = BitVec.ofNat 32 a.val) (hb : R (ix2 i (1 : Fin 2)) = BitVec.ofNat 32 b.val) :
    val_main_v69 (F := Ideal) X P R W (ix2 i f)
      = share (score X P i) a b a * (∑ d : Fin 256, X (ix2 i d) * W (ix3 a d f)) + share (score X P i) a b b * (∑ d : Fin 256, X (ix2 i d) * W (ix3 b d f)) := by
  pointwise [val_main_v69, val_main_v68, val_main_v67, val_main_v66, val_main_v65, val_main_v64, val_main_v63, val_main_v62, val_main_v61, val_main_v60, val_main_v43]
  rw [first_prob X P R i a ha, second_prob X P R i b hb, first_product X R W i a f ha, second_product X R W i b f hb]
  rfl

end

end Ref

end Cert.Moe

end
-- ==== Proof.Join.lean ====
/-  The kernel's result and the reference's are the same value, under the precondition that the indices name experts
    and that the tokens and the router's weights are finite. -/
module

public import proofs.«01_k».proof.Pre_served_KernelIdeal
public import proofs.«01_k».proof.Proof.OutValue
public import proofs.«01_k».proof.Proof.RefValue
public import Idealize.ShloMosaic.Lib.Layout

@[expose] public section

set_option maxRecDepth 16384

noncomputable section

namespace Cert.Moe

open Idealize.ShloMosaic Cert.KernelIdeal

local notation "𝕀" => Idealize.ShloMosaic.Ideal

/-- A word between zero and fifteen, read signed, names an expert. -/
theorem names (w : BitVec 32) (h0 : IntOp.cmpi .sge w 0#32 = 1#1) (h1 : IntOp.cmpi .slt w 16#32 = 1#1) : ∃ a : Fin 16, w = BitVec.ofNat 32 a.val := by
  rw [WordCmp.cmpi_sge_eq] at h0
  rw [WordCmp.cmpi_slt_eq] at h1
  have h0' : (0#32).toInt ≤ w.toInt := by
    by_contra hc
    rw [decide_eq_false hc] at h0
    exact absurd h0 (by decide)
  have h1' : w.toInt < (16#32).toInt := by
    by_contra hc
    rw [decide_eq_false hc] at h1
    exact absurd h1 (by decide)
  have e0 : (0#32).toInt = 0 := by decide
  have e1 : (16#32).toInt = 16 := by decide
  rw [e0] at h0'
  rw [e1] at h1'
  rw [BitVec.toInt_eq_toNat_cond] at h0' h1'
  have hw := w.isLt
  have : w.toNat < 16 := by
    split at h1' <;> split at h0' <;> omega
  exact ⟨⟨w.toNat, this⟩, by simp⟩

/-- A float whose magnitude is below infinity is a real number. -/
theorem finite (x : EReal) (h : FloatOps.cmpf (F := 𝕀) (φ := .f32) .olt (FloatOps.hostAbsf (F := 𝕀) (φ := .f32) x) (FloatOps.ofBits (F := 𝕀) .f32 0x7F800000#32) = 1#1) :
    ∃ r : ℝ, x = r := by
  have htop : Ideal.ofBits .f32 0x7F800000#32 = ⊤ := by simp [Ideal.ofBits, Ideal.ieee]
  have h' : max x (-x) < ⊤ := by
    by_contra hc
    have : Ideal.cmp .olt (max x (-x)) (Ideal.ofBits .f32 0x7F800000#32) = 1#1 := h
    rw [htop] at this
    simp [Ideal.cmp, hc] at this
  induction x with
  | bot => simp at h'
  | top => simp at h'
  | coe r => exact ⟨r, rfl⟩

/-- What the precondition says of one device's blocks. -/
theorem served_reads [Cert.Pre_served_KernelIdeal.Facts] (X : S512x256.Idx → EReal) (P : S256x16.Idx → EReal) (R : S512x2.Idx → BitVec 32) (W : S4x256x512.Idx → EReal)
    (h : (Cert.Pre_served_KernelIdeal.fn (F := 𝕀) X P R W).1 = (fun _ => 1#1) ∧ (Cert.Pre_served_KernelIdeal.fn (F := 𝕀) X P R W).2.1 = (fun _ => 1#1)
      ∧ (Cert.Pre_served_KernelIdeal.fn (F := 𝕀) X P R W).2.2 = (fun _ => 1#1)) :
    (∀ j, ∃ a : Fin 16, R j = BitVec.ofNat 32 a.val) ∧ (∀ j, ∃ r : ℝ, X j = r) ∧ (∀ j, ∃ r : ℝ, P j = r) := by
  refine ⟨fun j => ?_, fun j => ?_, fun j => ?_⟩
  · have hj : IntOp.andi (IntOp.cmpi .sge (R j) 0#32) (IntOp.cmpi .slt (R j) 16#32) = 1#1 := congrFun h.1 j
    have both : ∀ u v : BitVec 1, IntOp.andi u v = 1#1 → u = 1#1 ∧ v = 1#1 := by decide
    exact names _ (both _ _ hj).1 (both _ _ hj).2
  · exact finite (X j) (congrFun h.2.1 j)
  · exact finite (P j) (congrFun h.2.2 j)

/-- A score of finite tokens against finite weights is finite. -/
theorem score_real (X : S512x256.Idx → EReal) (P : S256x16.Idx → EReal) (hX : ∀ j, ∃ r : ℝ, X j = r) (hP : ∀ j, ∃ r : ℝ, P j = r) (i : Fin 512) (e : Fin 16) :
    ∃ r : ℝ, score X P i e = r := by
  choose x hx using hX
  choose p hp using hP
  refine ⟨∑ d : Fin 256, x (ix2 i d) * p (ix2 d e), ?_⟩
  unfold score
  refine Eq.trans ?_ (map_sum (⟨⟨Real.toEReal, EReal.coe_zero⟩, EReal.coe_add⟩ : ℝ →+ EReal) _ _).symm
  exact Finset.sum_congr rfl fun d _ => (by rw [hx, hp, ← EReal.coe_mul]; rfl)

/-- The kernel's sum over every expert is the reference's two products. -/
theorem values_agree (X : S512x256.Idx → EReal) (P : S256x16.Idx → EReal) (R : S512x2.Idx → BitVec 32) (W : Cert.ReferenceIdeal.S16x256x512.Idx → EReal)
    (a b : Fin 512 → Fin 16) (hX : ∀ j, ∃ r : ℝ, X j = r) (hP : ∀ j, ∃ r : ℝ, P j = r)
    (ha : ∀ i, R (ix2 i (0 : Fin 2)) = BitVec.ofNat 32 (a i).val) (hb : ∀ i, R (ix2 i (1 : Fin 2)) = BitVec.ofNat 32 (b i).val) (i f : Fin 512) :
    ∑ e : Fin 16, ∑ d : Fin 256, (gate X P a b i e * X (ix2 i d)) * W (ix3 e d f) = Cert.ReferenceIdeal.Read.val_main_v69 (F := 𝕀) X P R W (ix2 i f) := by
  have hs := score_real X P hX hP i
  refine (mix (share_pos hs (a i) (b i) (a i)) (share_pos hs (a i) (b i) (b i)) (a i) (b i) (fun d => X (ix2 i d)) (fun e d => W (ix3 e d f))).trans ?_
  exact (Ref.result_apply X P R W i (a i) (b i) f (ha i) (hb i)).symm

/-- Every device ends with the reference's result. -/
theorem same_result [Cert.Pre_served_KernelIdeal.Facts] (m : (ℓ : Loc nD τ sig) → Buf (Elt 𝕀) ℓ) (X : S512x256.Idx → EReal) (P : S256x16.Idx → EReal) (R : S512x2.Idx → BitVec 32)
    (W : Cert.ReferenceIdeal.S16x256x512.Idx → EReal)
    (hX : ∀ c : Dev nD, m ((c.tc : Thread nD τ).loc main_arg0) = X) (hP : ∀ c : Dev nD, m ((c.tc : Thread nD τ).loc main_arg1) = P)
    (hR : ∀ c : Dev nD, m ((c.tc : Thread nD τ).loc main_arg2) = R)
    (hW : ∀ c : Dev nD, m ((c.tc : Thread nD τ).loc main_arg3) = Layout.block ⟨3, ![4, 256, 512]⟩ ⟨3, ![16, 256, 512]⟩ 0 4 c W)
    (pre : (∀ j, ∃ a : Fin 16, R j = BitVec.ofNat 32 a.val) ∧ (∀ j, ∃ r : ℝ, X j = r) ∧ (∀ j, ∃ r : ℝ, P j = r)) (c : Dev nD) :
    (finalA m c (2 : Fin 3) : S512x512.Idx → EReal) = Cert.ReferenceIdeal.Read.val_main_v69 (F := 𝕀) X P R W := by
  obtain ⟨hr, hx, hp⟩ := pre
  choose n hn using hr
  have H : Holds m X P R (fun e d f => W (ix3 e d f)) (fun i => n (ix2 i (0 : Fin 2))) (fun i => n (ix2 i (1 : Fin 2))) :=
    { tokens := hX
      router := hP
      routes := hR
      weights := fun c j d f => by
        refine (congrFun (hW c) (ix3 j d f)).trans ?_
        refine congrArg W (funext fun x => Fin.ext ?_)
        have hv : (expert c j).val = 4 * c.val + j.val := rfl
        fin_cases x
        · show c.val * 4 + j.val = (expert c j).val
          omega
        · rfl
        · rfl
      first := fun i => hn _
      second := fun i => hn _ }
  rw [finalA_o]
  funext j
  rw [ValueIdx.eq_ix2 j]
  exact (out_apply H c _ _).trans (values_agree X P R W _ _ hx hp (fun i => hn _) (fun i => hn _) _ _)

end Cert.Moe

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_served_KernelIdeal
public import proofs.«01_k».proof.Proof.Gen.Pre_served_ReferenceIdeal
public import proofs.«01_k».proof.Proof.Launch
public import proofs.«01_k».proof.Proof.Join
public import Idealize.ShloMosaic.Adequacy
public import Idealize.ShloMosaic.Init

@[expose] public section

noncomputable section

namespace Cert.Proof

open Idealize.ShloMosaic Idealize.ShloMosaic.TcCoe Idealize.SL.Sem

/-- What the kernel's run leaves is what a frame asks for: the arguments as launched and every counter at zero. -/
theorem kept {F : FTy → Type} [FloatOps F] (m : (ℓ : Loc Cert.KernelIdeal.nD Cert.KernelIdeal.τ Cert.KernelIdeal.sig) → Buf (Elt F) ℓ)
    {r : PUnit × MemSt Cert.KernelIdeal.nD Cert.KernelIdeal.τ Cert.KernelIdeal.sig (Elt F)} (h : Cert.Moe.Post m r) :
    (∀ c : Dev Cert.KernelIdeal.nD,
      r.2.mem ((c.tc : Thread _ Cert.KernelIdeal.τ).loc Cert.KernelIdeal.main_arg0) = m ((c.tc : Thread _ Cert.KernelIdeal.τ).loc Cert.KernelIdeal.main_arg0)
      ∧ r.2.mem ((c.tc : Thread _ Cert.KernelIdeal.τ).loc Cert.KernelIdeal.main_arg1) = m ((c.tc : Thread _ Cert.KernelIdeal.τ).loc Cert.KernelIdeal.main_arg1)
      ∧ r.2.mem ((c.tc : Thread _ Cert.KernelIdeal.τ).loc Cert.KernelIdeal.main_arg2) = m ((c.tc : Thread _ Cert.KernelIdeal.τ).loc Cert.KernelIdeal.main_arg2)
      ∧ r.2.mem ((c.tc : Thread _ Cert.KernelIdeal.τ).loc Cert.KernelIdeal.main_arg3) = m ((c.tc : Thread _ Cert.KernelIdeal.τ).loc Cert.KernelIdeal.main_arg3))
    ∧ r.2.sem = fun _ => 0 :=
  ⟨fun c => ⟨(h.1 c).2.1, ((h.1 c).1 0).trans (Cert.Moe.finalA_p m c), ((h.1 c).1 1).trans (Cert.Moe.finalA_i m c), (h.1 c).2.2⟩, h.2⟩

/-- The two prints of the kernel are one text, so at the hardware's floats their body tables are one. -/
theorem bodies_same : (Cert.Kernel.defs₀ (F := Bits)) = Cert.KernelIdeal.defs₀ (F := Bits) := by
  unfold Cert.Kernel.defs₀ Cert.KernelIdeal.defs₀
  refine congrArg Defs.onTc (funext fun l => funext fun x => ?_)
  obtain ⟨l, hl⟩ := l
  match l with
  | 0 => rfl
  | l + 1 => exact absurd hl (Nat.not_lt.2 (Nat.le_add_left _ _))

/-- So are their tables of procedures. -/
theorem defs_same : (Cert.Kernel.defs (F := Bits)) = Cert.KernelIdeal.defs (F := Bits) := by
  unfold Cert.Kernel.defs Cert.KernelIdeal.defs
  rw [bodies_same]
  rfl

/-- The kernel runs at the hardware's own floats, its arguments end unchanged and its counters end at zero. -/
theorem frame_kernel : Cert.quiescent_Kernel := fun m ρ _ => by
  rw [defs_same]
  exact (θ_run Cert.KernelIdeal.defs _ _).mono (fun _ h => kept m h) (Cert.Moe.run_main (F := Bits) m ρ)

/-- The same of the kernel over the extended reals. -/
theorem frame_ideal : Cert.quiescent_KernelIdeal := fun m ρ _ =>
  (θ_run Cert.KernelIdeal.defs _ _).mono (fun _ h => kept m h) (Cert.Moe.run_main (F := Ideal) m ρ)

/-- The reference runs and its arguments end unchanged; it declares no semaphore. -/
theorem frame_reference : Cert.quiescent_ReferenceIdeal := fun m ρ _ =>
  (θ_run Cert.ReferenceIdeal.defs _ _).mono
    (fun _ h => ⟨fun c => (h c).2, sem_eq_zero_of_no_sems (by decide) _⟩)
    (Cert.ReferenceIdeal.Value.run (F := Ideal) m ρ)

/-- The precondition only narrows the memories a frame speaks of. -/
theorem frame_ideal_served : Cert.quiescent_KernelIdeal_pre_served_KernelIdeal := fun m ρ _ =>
  (θ_run Cert.KernelIdeal.defs _ _).mono (fun _ h => kept m h) (Cert.Moe.run_main (F := Ideal) m ρ)

/-- The same of the reference. -/
theorem frame_reference_served : Cert.quiescent_ReferenceIdeal_pre_served_ReferenceIdeal := fun m ρ _ =>
  (θ_run Cert.ReferenceIdeal.defs _ _).mono
    (fun _ h => ⟨fun c => (h c).2, sem_eq_zero_of_no_sems (by decide) _⟩)
    (Cert.ReferenceIdeal.Value.run (F := Ideal) m ρ)

/-- Every device's result is the reference's. -/
theorem value : Cert.algebraic_KernelIdeal_ReferenceIdeal_pre_served_KernelIdeal := fun m g m' g' pre same => by
  refine ⟨Cert.ReferenceIdeal.Value.res_main_v69 m' 0, ?_, ?_⟩
  · have hX := fun c => (same c).1
    have hP := fun c => (same c).2.1
    have hR := fun c => (same c).2.2.1
    have reads := Cert.Moe.served_reads _ _ _ _ (pre 0)
    rw [hX 0, hP 0, hR 0] at reads
    refine (θ_run Cert.KernelIdeal.defs _ _).mono (fun r h c => ?_) (Cert.Moe.run_main (F := Ideal) m g)
    refine ⟨((h.1 c).1 2).trans ?_, (kept m h).1 c⟩
    rw [Cert.ReferenceIdeal.Read.val_main_v69_eq]
    exact Cert.Moe.same_result m _ _ _ _ hX hP hR (fun c => (same c).2.2.2) reads c
  · exact (θ_run Cert.ReferenceIdeal.defs _ _).mono (fun _ h => h 0) (Cert.ReferenceIdeal.Value.run (F := Ideal) m' g')

theorem claim : Cert.Claim := ⟨Cert.Kernel.Gen.facts, Cert.KernelIdeal.Gen.facts, Cert.ReferenceIdeal.Gen.facts,
  Cert.Pre_served_KernelIdeal.Gen.facts, Cert.Pre_served_ReferenceIdeal.Gen.facts,
  frame_kernel, frame_ideal, frame_ideal_served, frame_reference, frame_reference_served, trivial, value⟩

end Cert.Proof

end
